-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![768, 1536]⟩ ⟨2, ![768, 12288]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1536, 768]⟩ ⟨2, ![12288, 768]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x768 : Shape := ⟨2, ![768, 768]⟩
abbrev S768x1536 : Shape := ⟨2, ![768, 1536]⟩
abbrev S1536x768 : Shape := ⟨2, ![1536, 768]⟩
abbrev S8x96x768 : Shape := ⟨3, ![8, 96, 768]⟩
abbrev S96x768 : Shape := ⟨2, ![96, 768]⟩
abbrev S8 : Shape := ⟨1, ![8]⟩
abbrev S_ : Shape := ⟨0, ![]⟩
abbrev S192x768 : Shape := ⟨2, ![192, 768]⟩
abbrev S192x1536 : Shape := ⟨2, ![192, 1536]⟩
abbrev S1 : Shape := ⟨1, ![1]⟩
abbrev S1x96x768 : Shape := ⟨3, ![1, 96, 768]⟩

abbrev nBuf : Space → Nat
  | .hbm => 5
  | .vmem => 12
  | .smem => 0
  | _ => 0

abbrev bufTy : (tb : Table) → Fin (tcTables nBuf tb) → BufTy
  | .hbm, ⟨0, _⟩ => ⟨S768x768, .f32⟩
  | .hbm, ⟨1, _⟩ => ⟨S768x1536, .f32⟩
  | .hbm, ⟨2, _⟩ => ⟨S768x1536, .f32⟩
  | .hbm, ⟨3, _⟩ => ⟨S1536x768, .f32⟩
  | .hbm, ⟨4, _⟩ => ⟨S768x768, .f32⟩
  | .local _ .vmem, ⟨0, _⟩ => ⟨S768x768, .f32⟩
  | .local _ .vmem, ⟨1, _⟩ => ⟨S768x1536, .f32⟩
  | .local _ .vmem, ⟨2, _⟩ => ⟨S768x1536, .f32⟩
  | .local _ .vmem, ⟨3, _⟩ => ⟨S1536x768, .f32⟩
  | .local _ .vmem, ⟨4, _⟩ => ⟨S768x768, .f32⟩
  | .local _ .vmem, ⟨5, _⟩ => ⟨S768x768, .bf16⟩
  | .local _ .vmem, ⟨6, _⟩ => ⟨S8x96x768, .bf16⟩
  | .local _ .vmem, ⟨7, _⟩ => ⟨S96x768, .bf16⟩
  | .local _ .vmem, ⟨8, _⟩ => ⟨S8x96x768, .bf16⟩
  | .local _ .vmem, ⟨9, _⟩ => ⟨S768x1536, .bf16⟩
  | .local _ .vmem, ⟨10, _⟩ => ⟨S768x1536, .bf16⟩
  | .local _ .vmem, ⟨11, _⟩ => ⟨S1536x768, .bf16⟩
  | _, _ => ⟨S768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_9 : BitVec 32 := 1#32
  let v18 : BitVec 32 := Scalar.muli v4 c1_i32_9
  let v19 : BitVec 32 := Scalar.addi c0_i32 v18
  v19.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_11 : BitVec 32 := 1#32
  let v20 : BitVec 32 := Scalar.muli v6 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_14 : BitVec 32 := 1#32
  let v22 : BitVec 32 := Scalar.muli v8 c1_i32_14
  let v23 : BitVec 32 := Scalar.addi c0_i32_15 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_17 : BitVec 32 := 1#32
  let v24 : BitVec 32 := Scalar.muli v10 c1_i32_17
  let v25 : BitVec 32 := Scalar.addi c0_i32_18 v24
  v25.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_20 : BitVec 32 := 1#32
  let v26 : BitVec 32 := Scalar.muli v12 c1_i32_20
  let v27 : BitVec 32 := Scalar.addi c0_i32_21 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_23 : BitVec 32 := 1#32
  let v28 : BitVec 32 := Scalar.muli v14 c1_i32_23
  let v29 : BitVec 32 := Scalar.addi c0_i32_24 v28
  v29.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_26 : BitVec 32 := 1#32
  let v30 : BitVec 32 := Scalar.muli v16 c1_i32_26
  let v31 : BitVec 32 := Scalar.addi c0_i32_27 v30
  v31.toNat
def k0_off1 (d0 : Dev nD) (c1_i32_41 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let v51 : BitVec 32 := Scalar.addi v50 c1_i32_41
  let c4_i32_42 : BitVec 32 := 4#32
  let v52 : BitVec 32 := Scalar.remsi v51 c4_i32_42
  let c192_i32 : BitVec 32 := 192#32
  let v53 : BitVec 32 := Scalar.muli v52 c192_i32
  let v54 : Index := Scalar.indexCast v53
  let c0_43 : Index := 0#32
  ![v54.toNat, 0]
def k0_cond1 (d0 : Dev nD) : BitVec 1 :=
  let c2_i32_54 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v75 : BitVec 32 := Scalar.muli c2_i32_54 v52
  let c0_i32_55 : BitVec 32 := 0#32
  let v76 : BitVec 32 := Scalar.addi v75 c0_i32_55
  let v77 : BitVec 1 := Scalar.cmpi .ne v76 v2
  let v78 : BitVec 32 := Scalar.extui v77
  let c0_i32_56 : BitVec 32 := 0#32
  let v79 : BitVec 1 := Scalar.cmpi .ne v78 c0_i32_56
  v79

def k0_off2 (d0 : Dev nD) : Fin 1 → Nat :=
  let c2_i32_54 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v75 : BitVec 32 := Scalar.muli c2_i32_54 v52
  let c0_i32_55 : BitVec 32 := 0#32
  let v76 : BitVec 32 := Scalar.addi v75 c0_i32_55
  ![v76.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off5 (d0 : Dev nD) : Fin 2 → Nat :=
  let c2_i32_54 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v75 : BitVec 32 := Scalar.muli c2_i32_54 v52
  let c0_i32_55 : BitVec 32 := 0#32
  let v76 : BitVec 32 := Scalar.addi v75 c0_i32_55
  let c96_i32_338 : BitVec 32 := 96#32
  let v520 : BitVec 32 := Scalar.muli v76 c96_i32_338
  let c0_i32_343 : BitVec 32 := 0#32
  ![v520.toNat, 0]
def k0_dev8 (d0 : Dev nD) : Nat :=
  let c0_i32_340 : BitVec 32 := 0#32
  let c2_i32_54 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v75 : BitVec 32 := Scalar.muli c2_i32_54 v52
  let c0_i32_55 : BitVec 32 := 0#32
  let v76 : BitVec 32 := Scalar.addi v75 c0_i32_55
  let c1_i32_339 : BitVec 32 := 1#32
  let v521 : BitVec 32 := Scalar.muli v76 c1_i32_339
  let v522 : BitVec 32 := Scalar.addi c0_i32_340 v521
  v522.toNat
def k0_cond2 (d0 : Dev nD) : BitVec 1 :=
  let c2_i32_57 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v80 : BitVec 32 := Scalar.muli c2_i32_57 v52
  let c1_i32_58 : BitVec 32 := 1#32
  let v81 : BitVec 32 := Scalar.addi v80 c1_i32_58
  let v82 : BitVec 1 := Scalar.cmpi .ne v81 v2
  let v83 : BitVec 32 := Scalar.extui v82
  let c0_i32_59 : BitVec 32 := 0#32
  let v84 : BitVec 1 := Scalar.cmpi .ne v83 c0_i32_59
  v84

def k0_off6 (d0 : Dev nD) : Fin 1 → Nat :=
  let c2_i32_57 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v80 : BitVec 32 := Scalar.muli c2_i32_57 v52
  let c1_i32_58 : BitVec 32 := 1#32
  let v81 : BitVec 32 := Scalar.addi v80 c1_i32_58
  ![v81.toNat]
def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off9 (d0 : Dev nD) : Fin 2 → Nat :=
  let c2_i32_57 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v80 : BitVec 32 := Scalar.muli c2_i32_57 v52
  let c1_i32_58 : BitVec 32 := 1#32
  let v81 : BitVec 32 := Scalar.addi v80 c1_i32_58
  let c96_i32_338 : BitVec 32 := 96#32
  let v520 : BitVec 32 := Scalar.muli v81 c96_i32_338
  let c0_i32_343 : BitVec 32 := 0#32
  ![v520.toNat, 0]
def k0_dev9 (d0 : Dev nD) : Nat :=
  let c0_i32_340 : BitVec 32 := 0#32
  let c2_i32_57 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c1_i32_41 : BitVec 32 := 1#32
  let v51 : BitVec 32 := Scalar.addi v50 c1_i32_41
  let c4_i32_42 : BitVec 32 := 4#32
  let v52 : BitVec 32 := Scalar.remsi v51 c4_i32_42
  let v80 : BitVec 32 := Scalar.muli c2_i32_57 v52
  let c1_i32_58 : BitVec 32 := 1#32
  let v81 : BitVec 32 := Scalar.addi v80 c1_i32_58
  let c1_i32_339 : BitVec 32 := 1#32
  let v521 : BitVec 32 := Scalar.muli v81 c1_i32_339
  let v522 : BitVec 32 := Scalar.addi c0_i32_340 v521
  v522.toNat
def k0_cond3 (d0 : Dev nD) : BitVec 1 :=
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v109 : BitVec 32 := Scalar.muli c2_i32_75 v86
  let c0_i32_76 : BitVec 32 := 0#32
  let v110 : BitVec 32 := Scalar.addi v109 c0_i32_76
  let v111 : BitVec 1 := Scalar.cmpi .ne v110 v2
  let v112 : BitVec 32 := Scalar.extui v111
  let c0_i32_77 : BitVec 32 := 0#32
  let v113 : BitVec 1 := Scalar.cmpi .ne v112 c0_i32_77
  v113

def k0_off10 (d0 : Dev nD) : Fin 1 → Nat :=
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v109 : BitVec 32 := Scalar.muli c2_i32_75 v86
  let c0_i32_76 : BitVec 32 := 0#32
  let v110 : BitVec 32 := Scalar.addi v109 c0_i32_76
  ![v110.toNat]
def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off13 (d0 : Dev nD) : Fin 2 → Nat :=
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v109 : BitVec 32 := Scalar.muli c2_i32_75 v86
  let c0_i32_76 : BitVec 32 := 0#32
  let v110 : BitVec 32 := Scalar.addi v109 c0_i32_76
  let c96_i32_338 : BitVec 32 := 96#32
  let v520 : BitVec 32 := Scalar.muli v110 c96_i32_338
  let c0_i32_343 : BitVec 32 := 0#32
  ![v520.toNat, 0]
def k0_dev10 (d0 : Dev nD) : Nat :=
  let c0_i32_340 : BitVec 32 := 0#32
  let c2_i32_75 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v109 : BitVec 32 := Scalar.muli c2_i32_75 v86
  let c0_i32_76 : BitVec 32 := 0#32
  let v110 : BitVec 32 := Scalar.addi v109 c0_i32_76
  let c1_i32_339 : BitVec 32 := 1#32
  let v521 : BitVec 32 := Scalar.muli v110 c1_i32_339
  let v522 : BitVec 32 := Scalar.addi c0_i32_340 v521
  v522.toNat
def k0_cond4 (d0 : Dev nD) : BitVec 1 :=
  let c2_i32_78 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v114 : BitVec 32 := Scalar.muli c2_i32_78 v86
  let c1_i32_79 : BitVec 32 := 1#32
  let v115 : BitVec 32 := Scalar.addi v114 c1_i32_79
  let v116 : BitVec 1 := Scalar.cmpi .ne v115 v2
  let v117 : BitVec 32 := Scalar.extui v116
  let c0_i32_80 : BitVec 32 := 0#32
  let v118 : BitVec 1 := Scalar.cmpi .ne v117 c0_i32_80
  v118

def k0_off14 (d0 : Dev nD) : Fin 1 → Nat :=
  let c2_i32_78 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v114 : BitVec 32 := Scalar.muli c2_i32_78 v86
  let c1_i32_79 : BitVec 32 := 1#32
  let v115 : BitVec 32 := Scalar.addi v114 c1_i32_79
  ![v115.toNat]
def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off17 (d0 : Dev nD) : Fin 2 → Nat :=
  let c2_i32_78 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v114 : BitVec 32 := Scalar.muli c2_i32_78 v86
  let c1_i32_79 : BitVec 32 := 1#32
  let v115 : BitVec 32 := Scalar.addi v114 c1_i32_79
  let c96_i32_338 : BitVec 32 := 96#32
  let v520 : BitVec 32 := Scalar.muli v115 c96_i32_338
  let c0_i32_343 : BitVec 32 := 0#32
  ![v520.toNat, 0]
def k0_dev11 (d0 : Dev nD) : Nat :=
  let c0_i32_340 : BitVec 32 := 0#32
  let c2_i32_78 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c2_i32_60 : BitVec 32 := 2#32
  let v85 : BitVec 32 := Scalar.addi v50 c2_i32_60
  let c4_i32_61 : BitVec 32 := 4#32
  let v86 : BitVec 32 := Scalar.remsi v85 c4_i32_61
  let v114 : BitVec 32 := Scalar.muli c2_i32_78 v86
  let c1_i32_79 : BitVec 32 := 1#32
  let v115 : BitVec 32 := Scalar.addi v114 c1_i32_79
  let c1_i32_339 : BitVec 32 := 1#32
  let v521 : BitVec 32 := Scalar.muli v115 c1_i32_339
  let v522 : BitVec 32 := Scalar.addi c0_i32_340 v521
  v522.toNat
def k0_cond5 (d0 : Dev nD) : BitVec 1 :=
  let c2_i32_96 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v143 : BitVec 32 := Scalar.muli c2_i32_96 v120
  let c0_i32_97 : BitVec 32 := 0#32
  let v144 : BitVec 32 := Scalar.addi v143 c0_i32_97
  let v145 : BitVec 1 := Scalar.cmpi .ne v144 v2
  let v146 : BitVec 32 := Scalar.extui v145
  let c0_i32_98 : BitVec 32 := 0#32
  let v147 : BitVec 1 := Scalar.cmpi .ne v146 c0_i32_98
  v147

def k0_off18 (d0 : Dev nD) : Fin 1 → Nat :=
  let c2_i32_96 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v143 : BitVec 32 := Scalar.muli c2_i32_96 v120
  let c0_i32_97 : BitVec 32 := 0#32
  let v144 : BitVec 32 := Scalar.addi v143 c0_i32_97
  ![v144.toNat]
def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off21 (d0 : Dev nD) : Fin 2 → Nat :=
  let c2_i32_96 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v143 : BitVec 32 := Scalar.muli c2_i32_96 v120
  let c0_i32_97 : BitVec 32 := 0#32
  let v144 : BitVec 32 := Scalar.addi v143 c0_i32_97
  let c96_i32_338 : BitVec 32 := 96#32
  let v520 : BitVec 32 := Scalar.muli v144 c96_i32_338
  let c0_i32_343 : BitVec 32 := 0#32
  ![v520.toNat, 0]
def k0_dev12 (d0 : Dev nD) : Nat :=
  let c0_i32_340 : BitVec 32 := 0#32
  let c2_i32_96 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v143 : BitVec 32 := Scalar.muli c2_i32_96 v120
  let c0_i32_97 : BitVec 32 := 0#32
  let v144 : BitVec 32 := Scalar.addi v143 c0_i32_97
  let c1_i32_339 : BitVec 32 := 1#32
  let v521 : BitVec 32 := Scalar.muli v144 c1_i32_339
  let v522 : BitVec 32 := Scalar.addi c0_i32_340 v521
  v522.toNat
def k0_cond6 (d0 : Dev nD) : BitVec 1 :=
  let c2_i32_99 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v148 : BitVec 32 := Scalar.muli c2_i32_99 v120
  let c1_i32_100 : BitVec 32 := 1#32
  let v149 : BitVec 32 := Scalar.addi v148 c1_i32_100
  let v150 : BitVec 1 := Scalar.cmpi .ne v149 v2
  let v151 : BitVec 32 := Scalar.extui v150
  let c0_i32_101 : BitVec 32 := 0#32
  let v152 : BitVec 1 := Scalar.cmpi .ne v151 c0_i32_101
  v152

def k0_off22 (d0 : Dev nD) : Fin 1 → Nat :=
  let c2_i32_99 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v148 : BitVec 32 := Scalar.muli c2_i32_99 v120
  let c1_i32_100 : BitVec 32 := 1#32
  let v149 : BitVec 32 := Scalar.addi v148 c1_i32_100
  ![v149.toNat]
def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off25 (d0 : Dev nD) : Fin 2 → Nat :=
  let c2_i32_99 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v148 : BitVec 32 := Scalar.muli c2_i32_99 v120
  let c1_i32_100 : BitVec 32 := 1#32
  let v149 : BitVec 32 := Scalar.addi v148 c1_i32_100
  let c96_i32_338 : BitVec 32 := 96#32
  let v520 : BitVec 32 := Scalar.muli v149 c96_i32_338
  let c0_i32_343 : BitVec 32 := 0#32
  ![v520.toNat, 0]
def k0_dev13 (d0 : Dev nD) : Nat :=
  let c0_i32_340 : BitVec 32 := 0#32
  let c2_i32_99 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c3_i32_81 : BitVec 32 := 3#32
  let v119 : BitVec 32 := Scalar.addi v50 c3_i32_81
  let c4_i32_82 : BitVec 32 := 4#32
  let v120 : BitVec 32 := Scalar.remsi v119 c4_i32_82
  let v148 : BitVec 32 := Scalar.muli c2_i32_99 v120
  let c1_i32_100 : BitVec 32 := 1#32
  let v149 : BitVec 32 := Scalar.addi v148 c1_i32_100
  let c1_i32_339 : BitVec 32 := 1#32
  let v521 : BitVec 32 := Scalar.muli v149 c1_i32_339
  let v522 : BitVec 32 := Scalar.addi c0_i32_340 v521
  v522.toNat
def k0_cond7 (d0 : Dev nD) : BitVec 1 :=
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v177 : BitVec 32 := Scalar.muli c2_i32_117 v154
  let c0_i32_118 : BitVec 32 := 0#32
  let v178 : BitVec 32 := Scalar.addi v177 c0_i32_118
  let v179 : BitVec 1 := Scalar.cmpi .ne v178 v2
  let v180 : BitVec 32 := Scalar.extui v179
  let c0_i32_119 : BitVec 32 := 0#32
  let v181 : BitVec 1 := Scalar.cmpi .ne v180 c0_i32_119
  v181

def k0_off26 (d0 : Dev nD) : Fin 1 → Nat :=
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v177 : BitVec 32 := Scalar.muli c2_i32_117 v154
  let c0_i32_118 : BitVec 32 := 0#32
  let v178 : BitVec 32 := Scalar.addi v177 c0_i32_118
  ![v178.toNat]
def k0_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off29 (d0 : Dev nD) : Fin 2 → Nat :=
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v177 : BitVec 32 := Scalar.muli c2_i32_117 v154
  let c0_i32_118 : BitVec 32 := 0#32
  let v178 : BitVec 32 := Scalar.addi v177 c0_i32_118
  let c96_i32_338 : BitVec 32 := 96#32
  let v520 : BitVec 32 := Scalar.muli v178 c96_i32_338
  let c0_i32_343 : BitVec 32 := 0#32
  ![v520.toNat, 0]
def k0_dev14 (d0 : Dev nD) : Nat :=
  let c0_i32_340 : BitVec 32 := 0#32
  let c2_i32_117 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v177 : BitVec 32 := Scalar.muli c2_i32_117 v154
  let c0_i32_118 : BitVec 32 := 0#32
  let v178 : BitVec 32 := Scalar.addi v177 c0_i32_118
  let c1_i32_339 : BitVec 32 := 1#32
  let v521 : BitVec 32 := Scalar.muli v178 c1_i32_339
  let v522 : BitVec 32 := Scalar.addi c0_i32_340 v521
  v522.toNat
def k0_cond8 (d0 : Dev nD) : BitVec 1 :=
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v182 : BitVec 32 := Scalar.muli c2_i32_120 v154
  let c1_i32_121 : BitVec 32 := 1#32
  let v183 : BitVec 32 := Scalar.addi v182 c1_i32_121
  let v184 : BitVec 1 := Scalar.cmpi .ne v183 v2
  let v185 : BitVec 32 := Scalar.extui v184
  let c0_i32_122 : BitVec 32 := 0#32
  let v186 : BitVec 1 := Scalar.cmpi .ne v185 c0_i32_122
  v186

def k0_off30 (d0 : Dev nD) : Fin 1 → Nat :=
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v182 : BitVec 32 := Scalar.muli c2_i32_120 v154
  let c1_i32_121 : BitVec 32 := 1#32
  let v183 : BitVec 32 := Scalar.addi v182 c1_i32_121
  ![v183.toNat]
def k0_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_341 : BitVec 32 := 0#32
  let c0_i32_342 : BitVec 32 := 0#32
  ![v2.toNat, 0, 0]
def k0_off33 (d0 : Dev nD) : Fin 2 → Nat :=
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v182 : BitVec 32 := Scalar.muli c2_i32_120 v154
  let c1_i32_121 : BitVec 32 := 1#32
  let v183 : BitVec 32 := Scalar.addi v182 c1_i32_121
  let c96_i32_338 : BitVec 32 := 96#32
  let v520 : BitVec 32 := Scalar.muli v183 c96_i32_338
  let c0_i32_343 : BitVec 32 := 0#32
  ![v520.toNat, 0]
def k0_dev15 (d0 : Dev nD) : Nat :=
  let c0_i32_340 : BitVec 32 := 0#32
  let c2_i32_120 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v50 : BitVec 32 := Scalar.shrsi v2 c1_i32_40
  let c4_i32_102 : BitVec 32 := 4#32
  let v153 : BitVec 32 := Scalar.addi v50 c4_i32_102
  let c4_i32_103 : BitVec 32 := 4#32
  let v154 : BitVec 32 := Scalar.remsi v153 c4_i32_103
  let v182 : BitVec 32 := Scalar.muli c2_i32_120 v154
  let c1_i32_121 : BitVec 32 := 1#32
  let v183 : BitVec 32 := Scalar.addi v182 c1_i32_121
  let c1_i32_339 : BitVec 32 := 1#32
  let v521 : BitVec 32 := Scalar.muli v183 c1_i32_339
  let v522 : BitVec 32 := Scalar.addi c0_i32_340 v521
  v522.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32 : BitVec 32 := 96#32
  let v187 : BitVec 32 := Scalar.muli v2 c96_i32
  let v188 : Index := Scalar.indexCast v187
  let c0_123 : Index := 0#32
  ![v188.toNat, 0]
def k0_off35 (d0 : Dev nD) (c1_i32_0 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  ![v4.toNat]
def k0_off36 (d0 : Dev nD) (c1_i32_0 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c0_i32_126 : BitVec 32 := 0#32
  let c0_i32_127 : BitVec 32 := 0#32
  ![v4.toNat, 0, 0]
def k0_off37 (d0 : Dev nD) (c1_i32_0 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let v199 : Index := Scalar.indexCast v4
  let c0_130 : Index := 0#32
  let c0_131 : Index := 0#32
  ![v199.toNat, 0, 0]
def k0_off38 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_186 : BitVec 32 := 0#32
  let c0_i32_187 : BitVec 32 := 0#32
  ![v2.toNat, 0, 0]
def k0_dev16 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_184 : BitVec 32 := 1#32
  let v289 : BitVec 32 := Scalar.muli v4 c1_i32_184
  let v290 : BitVec 32 := Scalar.addi c0_i32_185 v289
  v290.toNat
def k0_dev17 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c8_i32_2 : BitVec 32 := 8#32
  let v6 : BitVec 32 := Scalar.remsi v5 c8_i32_2
  let c1_i32_188 : BitVec 32 := 1#32
  let v297 : BitVec 32 := Scalar.muli v6 c1_i32_188
  let v298 : BitVec 32 := Scalar.addi c0_i32_189 v297
  v298.toNat
def k0_dev18 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c8_i32_3 : BitVec 32 := 8#32
  let v8 : BitVec 32 := Scalar.remsi v7 c8_i32_3
  let c1_i32_192 : BitVec 32 := 1#32
  let v305 : BitVec 32 := Scalar.muli v8 c1_i32_192
  let v306 : BitVec 32 := Scalar.addi c0_i32_193 v305
  v306.toNat
def k0_dev19 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c8_i32_4 : BitVec 32 := 8#32
  let v10 : BitVec 32 := Scalar.remsi v9 c8_i32_4
  let c1_i32_196 : BitVec 32 := 1#32
  let v313 : BitVec 32 := Scalar.muli v10 c1_i32_196
  let v314 : BitVec 32 := Scalar.addi c0_i32_197 v313
  v314.toNat
def k0_dev20 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c8_i32_5 : BitVec 32 := 8#32
  let v12 : BitVec 32 := Scalar.remsi v11 c8_i32_5
  let c1_i32_200 : BitVec 32 := 1#32
  let v321 : BitVec 32 := Scalar.muli v12 c1_i32_200
  let v322 : BitVec 32 := Scalar.addi c0_i32_201 v321
  v322.toNat
def k0_dev21 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c8_i32_6 : BitVec 32 := 8#32
  let v14 : BitVec 32 := Scalar.remsi v13 c8_i32_6
  let c1_i32_204 : BitVec 32 := 1#32
  let v329 : BitVec 32 := Scalar.muli v14 c1_i32_204
  let v330 : BitVec 32 := Scalar.addi c0_i32_205 v329
  v330.toNat
def k0_dev22 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v15 : BitVec 32 := Scalar.addi v2 c7_i32
  let c8_i32_7 : BitVec 32 := 8#32
  let v16 : BitVec 32 := Scalar.remsi v15 c8_i32_7
  let c1_i32_208 : BitVec 32 := 1#32
  let v337 : BitVec 32 := Scalar.muli v16 c1_i32_208
  let v338 : BitVec 32 := Scalar.addi c0_i32_209 v337
  v338.toNat
def k0_off40 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c96_i32_220 : BitVec 32 := 96#32
  let v357 : BitVec 32 := Scalar.muli v4 c96_i32_220
  let v358 : Index := Scalar.indexCast v357
  let c0_221 : Index := 0#32
  ![v358.toNat, 0]
def k0_off41 (d0 : Dev nD) (c1_i32_0 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.addi v2 c1_i32_0
  let c8_i32_1 : BitVec 32 := 8#32
  let v4 : BitVec 32 := Scalar.remsi v3 c8_i32_1
  let c96_i32_282 : BitVec 32 := 96#32
  let v450 : BitVec 32 := Scalar.muli v4 c96_i32_282
  let c0_i32_284 : BitVec 32 := 0#32
  ![v450.toNat, 0]
abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S768x768 : Shape := ⟨2, ![768, 768]⟩
abbrev S768x12288 : Shape := ⟨2, ![768, 12288]⟩
abbrev S12288x768 : Shape := ⟨2, ![12288, 768]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x12288, .f32⟩
  | .hbm, ⟨2, _⟩ => ⟨S768x12288, .f32⟩
  | .hbm, ⟨3, _⟩ => ⟨S12288x768, .f32⟩
  | .hbm, ⟨4, _⟩ => ⟨S768x12288, .f32⟩
  | .hbm, ⟨5, _⟩ => ⟨S768x12288, .f32⟩
  | .hbm, ⟨6, _⟩ => ⟨S768x12288, .f32⟩
  | .hbm, ⟨7, _⟩ => ⟨S768x12288, .f32⟩
  | .hbm, ⟨8, _⟩ => ⟨S_, .f32⟩
  | .hbm, ⟨9, _⟩ => ⟨S768x12288, .f32⟩
  | .hbm, ⟨10, _⟩ => ⟨S768x12288, .f32⟩
  | .hbm, ⟨11, _⟩ => ⟨S768x12288, .f32⟩
  | .hbm, ⟨12, _⟩ => ⟨S768x12288, .f32⟩
  | .hbm, ⟨13, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Names.lean ====
/-
# The mesh, the buffers, the semaphores

Names for what the kernel's text computes from its device number: the peers a device talks to, the row blocks and the
slots of its buffers, its semaphores, and each printed offset in these names.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI

/-! ## Devices and blocks -/

/-- The device `k + 1` places after `c` around the mesh. -/
def peer (c : Dev nD) (k : Fin 7) : Dev nD := ⟨(c.val + k.val + 1) % 8, Nat.mod_lt _ (by decide)⟩

/-- The chunk of 192 rows device `c` computes in its trip `r`. -/
def chunkIx (c : Dev nD) (r : Fin 4) : Fin 4 := ⟨(c.val / 2 + r.val + 1) % 4, Nat.mod_lt _ (by decide)⟩

/-- The half `t` of a chunk is the row block of 96 rows of this number. -/
def blockOf (q : Fin 4) (t : Fin 2) : Dev nD := ⟨2 * q.val + t.val, by have := q.isLt; have := t.isLt; show _ < 8; omega⟩

/-- The row block device `c` sends as its `n`-th one. -/
def sent (c : Dev nD) (n : Fin 8) : Dev nD :=
  blockOf (chunkIx c ⟨n.val / 2, by have := n.isLt; omega⟩) ⟨n.val % 2, Nat.mod_lt _ (by decide)⟩

/-- A device is none of its peers. -/
theorem peer_ne (c : Dev nD) (k : Fin 7) : peer c k ≠ c := by revert c k; decide

/-- The peers of a device and the device itself are all the devices, each once. -/
theorem peers_univ (c : Dev nD) : ∀ d : Dev nD, d = c ∨ ∃ k : Fin 7, peer c k = d := by revert c; decide
theorem peer_inj (c : Dev nD) : Function.Injective (peer c) := by revert c; decide
theorem sent_bij (c : Dev nD) : Function.Bijective (sent c) := by
  have h : ∀ c : Dev nD, Function.Injective (sent c) := by decide
  exact Finite.injective_iff_bijective.mp (h c)

/-! ## The buffers -/

abbrev xM : Memref sig .tc .vmem S768x768 .f32 := Memref.whole cc0_stg0_0
abbrev gM : Memref sig .tc .vmem S768x1536 .f32 := Memref.whole cc0_stg1_0
abbrev uM : Memref sig .tc .vmem S768x1536 .f32 := Memref.whole cc0_stg2_0
abbrev dM : Memref sig .tc .vmem S1536x768 .f32 := Memref.whole cc0_stg3_0
abbrev oM : Memref sig .tc .vmem S768x768 .f32 := Memref.whole cc0_stg4_0
abbrev sM : Memref sig .tc .vmem S768x768 .bf16 := Memref.whole cc0_scratch0
abbrev rM : Memref sig .tc .vmem S8x96x768 .bf16 := Memref.whole cc0_scratch1
abbrev aM : Memref sig .tc .vmem S96x768 .bf16 := Memref.whole cc0_scratch2
abbrev bM : Memref sig .tc .vmem S8x96x768 .bf16 := Memref.whole cc0_scratch3
abbrev gbM : Memref sig .tc .vmem S768x1536 .bf16 := Memref.whole cc0_scratch4
abbrev ubM : Memref sig .tc .vmem S768x1536 .bf16 := Memref.whole cc0_scratch5
abbrev dbM : Memref sig .tc .vmem S1536x768 .bf16 := Memref.whole cc0_scratch6

theorem inb96 (b : Dev nD) : ∀ a, (![96 * b.val, 0] : Fin 2 → Nat) a + S96x768.size a ≤ S768x768.size a := by
  revert b; decide
theorem inb192 (q : Fin 4) : ∀ a, (![192 * q.val, 0] : Fin 2 → Nat) a + S192x768.size a ≤ S768x768.size a := by
  revert q; decide
theorem inbSlot (b : Dev nD) : ∀ a, (![b.val, 0, 0] : Fin 3 → Nat) a + S1x96x768.size a ≤ S8x96x768.size a := by
  revert b; decide
theorem inbSem (b : Dev nD) : ∀ a, (![b.val] : Fin 1 → Nat) a + S1.size a ≤ S8.size a := by revert b; decide

/-- Row block `b`, chunk `q` and slot `b` as rectangles. -/
abbrev rowR (b : Dev nD) : Rect S768x768 := Rect.unit (s := S768x768) ![96 * b.val, 0] S96x768.size (inb96 b)
abbrev chunkR (q : Fin 4) : Rect S768x768 := Rect.unit (s := S768x768) ![192 * q.val, 0] S192x768.size (inb192 q)
abbrev slotR (b : Dev nD) : Rect S8x96x768 := Rect.unit (s := S8x96x768) ![b.val, 0, 0] S1x96x768.size (inbSlot b)

/-- Row block `b` of the send buffer, and slot `b` of the two landing buffers. -/
abbrev rowM (b : Dev nD) : Memref sig .tc .vmem S96x768 .bf16 := sM.slice (rowR b) (fun _ => rfl)
abbrev rsM (b : Dev nD) : Memref sig .tc .vmem S96x768 .bf16 :=
  (rM.slice (slotR b) (fun _ => rfl)).squeeze S96x768 squeezes_S1x96x768_S96x768
abbrev agM (b : Dev nD) : Memref sig .tc .vmem S96x768 .bf16 :=
  (bM.slice (slotR b) (fun _ => rfl)).squeeze S96x768 squeezes_S1x96x768_S96x768

/-! ## The semaphores -/

/-- The runtime's barrier semaphore. -/
abbrev barS : Sem sig := (SemArray.scalar (sig.barrier 0 rfl) : Sems sig S_).sem

/-- The four semaphore arrays: sends and receives of the first exchange, sends and receives of the second. -/
def arr : Fin 4 → DmaSems sig S8 := fun | 0 => cc0_scratch7 | 1 => cc0_scratch8 | 2 => cc0_scratch9 | 3 => cc0_scratch10

/-- Member `p` of a semaphore array. -/
def semAt (A : DmaSems sig S8) (p : Dev nD) : DmaSem sig :=
  ((A.slice (Rect.unit (s := S8) ![p.val] S1.size (inbSem p))).squeeze S_ squeezes_S1_S_).sem

theorem semAt_of (A : DmaSems sig S8) (p : Dev nD) {off : Fin 1 → Nat} (h : off = ![p.val])
    (inb : ∀ a, off a + S1.size a ≤ S8.size a) :
    ((A.slice (Rect.unit (s := S8) off S1.size inb)).squeeze S_ squeezes_S1_S_).sem = semAt A p := by
  subst h; rfl

/-- The same, with the array named as the kernel names it. -/
theorem sem0_of (p : Dev nD) {off : Fin 1 → Nat} (h : off = ![p.val]) (inb : ∀ a, off a + S1.size a ≤ S8.size a) :
    ((SemArray.slice cc0_scratch7 (Rect.unit (s := S8) off S1.size inb)).squeeze S_ squeezes_S1_S_).sem = semAt (arr 0) p :=
  semAt_of (arr 0) p h inb
theorem sem1_of (p : Dev nD) {off : Fin 1 → Nat} (h : off = ![p.val]) (inb : ∀ a, off a + S1.size a ≤ S8.size a) :
    ((SemArray.slice cc0_scratch8 (Rect.unit (s := S8) off S1.size inb)).squeeze S_ squeezes_S1_S_).sem = semAt (arr 1) p :=
  semAt_of (arr 1) p h inb
theorem sem2_of (p : Dev nD) {off : Fin 1 → Nat} (h : off = ![p.val]) (inb : ∀ a, off a + S1.size a ≤ S8.size a) :
    ((SemArray.slice cc0_scratch9 (Rect.unit (s := S8) off S1.size inb)).squeeze S_ squeezes_S1_S_).sem = semAt (arr 2) p :=
  semAt_of (arr 2) p h inb
theorem sem3_of (p : Dev nD) {off : Fin 1 → Nat} (h : off = ![p.val]) (inb : ∀ a, off a + S1.size a ≤ S8.size a) :
    ((SemArray.slice cc0_scratch10 (Rect.unit (s := S8) off S1.size inb)).squeeze S_ squeezes_S1_S_).sem = semAt (arr 3) p :=
  semAt_of (arr 3) p h inb

/-- A kernel's own semaphores: which array, which member. -/
def osem (k : Fin 4 × Dev nD) : SemLoc sig := .dma (semAt (arr k.1) k.2)

theorem osem_inj : Function.Injective osem := by
  have h : ∀ k k' : Fin 4 × Dev nD, semAt (arr k.1) k.2 = semAt (arr k'.1) k'.2 → k = k' := by decide +kernel
  intro k k' e
  exact h k k' (SemLoc.dma.inj e)

theorem ownSemFacts : Pipeline.OwnSemFacts cfg0.spec osem := by decide +kernel

theorem osem_ne_bar (k : Fin 4 × Dev nD) : osem k ≠ .reg barS := fun h => by cases h

/-- The barrier cell of a device, and its cell of the semaphore `k`. -/
abbrev barCell (c : Dev nD) : GSem nD τ sig := ((c : Thread nD τ), .reg barS)
abbrev cell (a : Fin 4) (c p : Dev nD) : GSem nD τ sig := ((c : Thread nD τ), osem (a, p))

/-! ## Amounts -/

/-- What one block's transfer counts on a semaphore. -/
abbrev N : ℕ := (rsM 0).view.dmaCredit
theorem N_pos : 0 < N := View.dmaCredit_pos _ (by decide)
theorem credit_rs (b : Dev nD) : (rsM b).view.dmaCredit = N := rfl
theorem credit_ag (b : Dev nD) : (agM b).view.dmaCredit = N := by revert b; decide +kernel
theorem credit_row (b : Dev nD) : (rowM b).view.dmaCredit = N := by revert b; decide +kernel
/-- The same for a slice at an offset the kernel computes. -/
theorem credit_rs_of (b : Dev nD) {off : Fin 3 → Nat} (h : off = ![b.val, 0, 0]) (inb : ∀ a, off a + S1x96x768.size a ≤ S8x96x768.size a) :
    ((rM.slice (Rect.unit (s := S8x96x768) off S1x96x768.size inb) (fun _ => rfl)).squeeze S96x768 squeezes_S1x96x768_S96x768).view.dmaCredit = N := by
  subst h; exact credit_rs b
theorem credit_ag_of (b : Dev nD) {off : Fin 3 → Nat} (h : off = ![b.val, 0, 0]) (inb : ∀ a, off a + S1x96x768.size a ≤ S8x96x768.size a) :
    ((bM.slice (Rect.unit (s := S8x96x768) off S1x96x768.size inb) (fun _ => rfl)).squeeze S96x768 squeezes_S1x96x768_S96x768).view.dmaCredit = N := by
  subst h; exact credit_ag b
theorem credit_row_of (b : Dev nD) {off : Fin 2 → Nat} (h : off = ![96 * b.val, 0]) (inb : ∀ a, off a + S96x768.size a ≤ S768x768.size a) :
    (sM.slice (Rect.unit (s := S768x768) off S96x768.size inb) (fun _ => rfl)).view.dmaCredit = N := by
  subst h; exact credit_row b
theorem credit_a : aM.view.dmaCredit = N := by decide +kernel

end Cert.Mlp

end
-- ==== Proof.Offsets.lean ====
/-
# The printed offsets

What the kernel's text computes from its device number (offsets, targets and conditions), in the names of `Names`.
-/
module

public import proofs.«01_k».proof.Proof.Names

@[expose] public section

namespace Cert.Mlp

open Cert.KernelIdeal Cert.KernelIdeal.Gen
open Idealize.ShloMosaic

/-! ## The signals' targets -/

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)

/-! ## The second exchange's targets -/

theorem dev16_eq (c : Dev nD) : (⟨k0_dev16 c, k0_dev16_lt c⟩ : Dev nD) = peer c 0 := Fin.ext (k0_dev16_eq c)
theorem dev17_eq (c : Dev nD) : (⟨k0_dev17 c, k0_dev17_lt c⟩ : Dev nD) = peer c 1 := Fin.ext (k0_dev17_eq c)
theorem dev18_eq (c : Dev nD) : (⟨k0_dev18 c, k0_dev18_lt c⟩ : Dev nD) = peer c 2 := Fin.ext (k0_dev18_eq c)
theorem dev19_eq (c : Dev nD) : (⟨k0_dev19 c, k0_dev19_lt c⟩ : Dev nD) = peer c 3 := Fin.ext (k0_dev19_eq c)
theorem dev20_eq (c : Dev nD) : (⟨k0_dev20 c, k0_dev20_lt c⟩ : Dev nD) = peer c 4 := Fin.ext (k0_dev20_eq c)
theorem dev21_eq (c : Dev nD) : (⟨k0_dev21 c, k0_dev21_lt c⟩ : Dev nD) = peer c 5 := Fin.ext (k0_dev21_eq c)
theorem dev22_eq (c : Dev nD) : (⟨k0_dev22 c, k0_dev22_lt c⟩ : Dev nD) = peer c 6 := Fin.ext (k0_dev22_eq c)

/-! ## The first exchange: each send is made exactly when its block is another device's -/

theorem cond1_iff : ∀ c : Dev nD, k0_cond1 c = 1#1 ↔ sent c 0 ≠ c := by decide +kernel
theorem off2_eq : ∀ c : Dev nD, k0_off2 c = ![(sent c 0).val] := by decide +kernel
theorem off3_eq : ∀ c : Dev nD, k0_off3 c = ![c.val] := by decide +kernel
theorem off4_eq : ∀ c : Dev nD, k0_off4 c = ![c.val, 0, 0] := by decide +kernel
theorem off5_eq : ∀ c : Dev nD, k0_off5 c = ![96 * (sent c 0).val, 0] := by decide +kernel
theorem dev8_val : ∀ c : Dev nD, k0_dev8 c = (sent c 0).val := by decide +kernel
theorem dev8_eq (c : Dev nD) (h : k0_cond1 c = 1#1) : (⟨k0_dev8 c, k0_dev8_lt c h⟩ : Dev nD) = sent c 0 := Fin.ext (dev8_val c)

theorem cond2_iff : ∀ c : Dev nD, k0_cond2 c = 1#1 ↔ sent c 1 ≠ c := by decide +kernel
theorem off6_eq : ∀ c : Dev nD, k0_off6 c = ![(sent c 1).val] := by decide +kernel
theorem off7_eq : ∀ c : Dev nD, k0_off7 c = ![c.val] := by decide +kernel
theorem off8_eq : ∀ c : Dev nD, k0_off8 c = ![c.val, 0, 0] := by decide +kernel
theorem off9_eq : ∀ c : Dev nD, k0_off9 c = ![96 * (sent c 1).val, 0] := by decide +kernel
theorem dev9_val : ∀ c : Dev nD, k0_dev9 c = (sent c 1).val := by decide +kernel
theorem dev9_eq (c : Dev nD) (h : k0_cond2 c = 1#1) : (⟨k0_dev9 c, k0_dev9_lt c h⟩ : Dev nD) = sent c 1 := Fin.ext (dev9_val c)

theorem cond3_iff : ∀ c : Dev nD, k0_cond3 c = 1#1 ↔ sent c 2 ≠ c := by decide +kernel
theorem off10_eq : ∀ c : Dev nD, k0_off10 c = ![(sent c 2).val] := by decide +kernel
theorem off11_eq : ∀ c : Dev nD, k0_off11 c = ![c.val] := by decide +kernel
theorem off12_eq : ∀ c : Dev nD, k0_off12 c = ![c.val, 0, 0] := by decide +kernel
theorem off13_eq : ∀ c : Dev nD, k0_off13 c = ![96 * (sent c 2).val, 0] := by decide +kernel
theorem dev10_val : ∀ c : Dev nD, k0_dev10 c = (sent c 2).val := by decide +kernel
theorem dev10_eq (c : Dev nD) (h : k0_cond3 c = 1#1) : (⟨k0_dev10 c, k0_dev10_lt c h⟩ : Dev nD) = sent c 2 := Fin.ext (dev10_val c)

theorem cond4_iff : ∀ c : Dev nD, k0_cond4 c = 1#1 ↔ sent c 3 ≠ c := by decide +kernel
theorem off14_eq : ∀ c : Dev nD, k0_off14 c = ![(sent c 3).val] := by decide +kernel
theorem off15_eq : ∀ c : Dev nD, k0_off15 c = ![c.val] := by decide +kernel
theorem off16_eq : ∀ c : Dev nD, k0_off16 c = ![c.val, 0, 0] := by decide +kernel
theorem off17_eq : ∀ c : Dev nD, k0_off17 c = ![96 * (sent c 3).val, 0] := by decide +kernel
theorem dev11_val : ∀ c : Dev nD, k0_dev11 c = (sent c 3).val := by decide +kernel
theorem dev11_eq (c : Dev nD) (h : k0_cond4 c = 1#1) : (⟨k0_dev11 c, k0_dev11_lt c h⟩ : Dev nD) = sent c 3 := Fin.ext (dev11_val c)

theorem cond5_iff : ∀ c : Dev nD, k0_cond5 c = 1#1 ↔ sent c 4 ≠ c := by decide +kernel
theorem off18_eq : ∀ c : Dev nD, k0_off18 c = ![(sent c 4).val] := by decide +kernel
theorem off19_eq : ∀ c : Dev nD, k0_off19 c = ![c.val] := by decide +kernel
theorem off20_eq : ∀ c : Dev nD, k0_off20 c = ![c.val, 0, 0] := by decide +kernel
theorem off21_eq : ∀ c : Dev nD, k0_off21 c = ![96 * (sent c 4).val, 0] := by decide +kernel
theorem dev12_val : ∀ c : Dev nD, k0_dev12 c = (sent c 4).val := by decide +kernel
theorem dev12_eq (c : Dev nD) (h : k0_cond5 c = 1#1) : (⟨k0_dev12 c, k0_dev12_lt c h⟩ : Dev nD) = sent c 4 := Fin.ext (dev12_val c)

theorem cond6_iff : ∀ c : Dev nD, k0_cond6 c = 1#1 ↔ sent c 5 ≠ c := by decide +kernel
theorem off22_eq : ∀ c : Dev nD, k0_off22 c = ![(sent c 5).val] := by decide +kernel
theorem off23_eq : ∀ c : Dev nD, k0_off23 c = ![c.val] := by decide +kernel
theorem off24_eq : ∀ c : Dev nD, k0_off24 c = ![c.val, 0, 0] := by decide +kernel
theorem off25_eq : ∀ c : Dev nD, k0_off25 c = ![96 * (sent c 5).val, 0] := by decide +kernel
theorem dev13_val : ∀ c : Dev nD, k0_dev13 c = (sent c 5).val := by decide +kernel
theorem dev13_eq (c : Dev nD) (h : k0_cond6 c = 1#1) : (⟨k0_dev13 c, k0_dev13_lt c h⟩ : Dev nD) = sent c 5 := Fin.ext (dev13_val c)

theorem cond7_iff : ∀ c : Dev nD, k0_cond7 c = 1#1 ↔ sent c 6 ≠ c := by decide +kernel
theorem off26_eq : ∀ c : Dev nD, k0_off26 c = ![(sent c 6).val] := by decide +kernel
theorem off27_eq : ∀ c : Dev nD, k0_off27 c = ![c.val] := by decide +kernel
theorem off28_eq : ∀ c : Dev nD, k0_off28 c = ![c.val, 0, 0] := by decide +kernel
theorem off29_eq : ∀ c : Dev nD, k0_off29 c = ![96 * (sent c 6).val, 0] := by decide +kernel
theorem dev14_val : ∀ c : Dev nD, k0_dev14 c = (sent c 6).val := by decide +kernel
theorem dev14_eq (c : Dev nD) (h : k0_cond7 c = 1#1) : (⟨k0_dev14 c, k0_dev14_lt c h⟩ : Dev nD) = sent c 6 := Fin.ext (dev14_val c)

theorem cond8_iff : ∀ c : Dev nD, k0_cond8 c = 1#1 ↔ sent c 7 ≠ c := by decide +kernel
theorem off30_eq : ∀ c : Dev nD, k0_off30 c = ![(sent c 7).val] := by decide +kernel
theorem off31_eq : ∀ c : Dev nD, k0_off31 c = ![c.val] := by decide +kernel
theorem off32_eq : ∀ c : Dev nD, k0_off32 c = ![c.val, 0, 0] := by decide +kernel
theorem off33_eq : ∀ c : Dev nD, k0_off33 c = ![96 * (sent c 7).val, 0] := by decide +kernel
theorem dev15_val : ∀ c : Dev nD, k0_dev15 c = (sent c 7).val := by decide +kernel
theorem dev15_eq (c : Dev nD) (h : k0_cond8 c = 1#1) : (⟨k0_dev15 c, k0_dev15_lt c h⟩ : Dev nD) = sent c 7 := Fin.ext (dev15_val c)

/-! ## Chunks, slots, semaphores -/

theorem off34_eq (c : Dev nD) : k0_off34 c = ![96 * c.val, 0] := k0_off34_eq c
theorem off38_eq (c : Dev nD) : k0_off38 c = ![c.val] := k0_off38_eq c
theorem off39_eq (c : Dev nD) : k0_off39 c = ![c.val, 0, 0] := k0_off39_eq c
theorem off1_eq : ∀ (c : Dev nD) (r : Fin 4), k0_off1 c (BitVec.ofNat 32 (1 + r.val)) = ![192 * (chunkIx c r).val, 0] := by decide +kernel
theorem off35_eq : ∀ (c : Dev nD) (k : Fin 7), k0_off35 c (BitVec.ofNat 32 (1 + k.val)) = ![(peer c k).val] := by decide +kernel
theorem off36_eq : ∀ (c : Dev nD) (k : Fin 7), k0_off36 c (BitVec.ofNat 32 (1 + k.val)) = ![(peer c k).val, 0, 0] := by decide +kernel
theorem off37_eq : ∀ (c : Dev nD) (k : Fin 7), k0_off37 c (BitVec.ofNat 32 (1 + k.val)) = ![(peer c k).val, 0, 0] := by decide +kernel
theorem off40_eq : ∀ (c : Dev nD) (k : Fin 7), k0_off40 c (BitVec.ofNat 32 (1 + k.val)) = ![96 * (peer c k).val, 0] := by decide +kernel
theorem off41_eq : ∀ (c : Dev nD) (k : Fin 7), k0_off41 c (BitVec.ofNat 32 (1 + k.val)) = ![96 * (peer c k).val, 0] := by decide +kernel

end Cert.Mlp

end
-- ==== Proof.Contents.lean ====
/-
# The values

What each device computes, as functions of the four operands on every device, and how the kernel's loads and stores
read and write these values in the buffers' blocks.
-/
module

public import proofs.«01_k».proof.Proof.Offsets

@[expose] public section

noncomputable section

namespace Cert.Mlp

open Cert.KernelIdeal Cert.KernelIdeal.Gen
open Idealize.ShloMosaic
open Idealize.ShloMosaic.TcCoe

variable {F : FTy → Type} [FloatOps F]

/-! ## Loads and stores at rectangles -/

section Rects

variable {κ : Kind} {sp : Space} {s : Shape} {e : EltTy} {Val : EltTy → Type} (v : View sig κ sp s e)

/-- A load at a rectangle just stored whole reads what was stored. -/
theorem readAt_write_same (R : Rect s) (f : v.ty.Contents Val) (w : R.shape.Idx → Val e) :
    v.readAt Val R.toLoadRect ((v.slice R).write Val f w Finset.univ) = w := by
  rw [View.readAt_rect]; exact View.read_write_univ _ _

/-- A load at a rectangle disjoint from the one stored reads what it read before. -/
theorem readAt_write_other (R R' : Rect s) (h : Disjoint R.set R'.set) (f : v.ty.Contents Val) (w : R.shape.Idx → Val e) :
    v.readAt Val R'.toLoadRect ((v.slice R).write Val f w Finset.univ) = v.readAt Val R'.toLoadRect f := by
  rw [View.readAt_rect, View.readAt_rect]
  funext x
  rw [View.read_apply, View.read_apply, View.write_of_not_mem]
  rw [View.setOn_univ, View.set_slice]
  intro hm
  obtain ⟨y, hy, e⟩ := Finset.mem_map.mp hm
  have : y = R'.emb x := v.emb.injective e
  exact Finset.disjoint_left.mp h hy (by rw [this]; exact R'.toLoadRect.idx_mem x)

end Rects

/-! ## Blocks and chunks of a 768-row buffer -/

/-- The chunk a row block lies in, and which half of it the block is. -/
def chunkOf (b : Dev nD) : Fin 4 := ⟨b.val / 2, by have h : b.val < 8 := b.isLt; omega⟩
def halfOf (b : Dev nD) : Fin 2 := ⟨b.val % 2, Nat.mod_lt _ (by decide)⟩

theorem blockOf_chunk_half : ∀ b : Dev nD, blockOf (chunkOf b) (halfOf b) = b := by decide
theorem chunkOf_blockOf : ∀ (q : Fin 4) (t : Fin 2), chunkOf (blockOf q t) = q := by decide
theorem halfOf_blockOf : ∀ (q : Fin 4) (t : Fin 2), halfOf (blockOf q t) = t := by decide

theorem inbHalf (t : Fin 2) : ∀ a, (![96 * t.val, 0] : Fin 2 → Nat) a + S96x768.size a ≤ S192x768.size a := by
  revert t; decide
abbrev halfR (t : Fin 2) : Rect S192x768 := Rect.unit (s := S192x768) ![96 * t.val, 0] S96x768.size (inbHalf t)

/-- Half `t` of a chunk. -/
def half {α : Type} (t : Fin 2) (v : S192x768.Idx → α) : S96x768.Idx → α := fun i => v ((halfR t).emb i)

/-- A row of a block is a row of its chunk's half. -/
theorem row_emb (b : Dev nD) (i : S96x768.Idx) : (rowR b).emb i = (chunkR (chunkOf b)).emb ((halfR (halfOf b)).emb i) := by
  funext a
  apply Fin.ext
  fin_cases a
  · show 96 * b.val + 1 * (i 0).val = 192 * (b.val / 2) + 1 * (96 * (b.val % 2) + 1 * (i 0).val); omega
  · show 0 + 1 * (i 1).val = 0 + 1 * (0 + 1 * (i 1).val); omega

/-- A block read is its chunk's half read. -/
theorem readAt_row {κ : Kind} {sp : Space} {e : EltTy} {Val : EltTy → Type} (v : View sig κ sp S768x768 e) (b : Dev nD) (f : v.ty.Contents Val) :
    v.readAt Val (rowR b).toLoadRect f = half (halfOf b) (v.readAt Val (chunkR (chunkOf b)).toLoadRect f) := by
  rw [View.readAt_rect, View.readAt_rect]
  funext i
  show v.read Val f ((rowR b).emb i) = v.read Val f ((chunkR (chunkOf b)).emb ((halfR (halfOf b)).emb i))
  rw [row_emb]

theorem rows_disjoint {b b' : Dev nD} (h : b ≠ b') : Disjoint (rowR b).set (rowR b').set := by
  refine Rect.unit_disjoint (0 : Fin 2) ?_
  have : b.val ≠ b'.val := fun e => h (Fin.ext e)
  show 96 * b.val + 96 ≤ 96 * b'.val ∨ 96 * b'.val + 96 ≤ 96 * b.val
  omega

theorem chunks_disjoint {q q' : Fin 4} (h : q ≠ q') : Disjoint (chunkR q).set (chunkR q').set := by
  refine Rect.unit_disjoint (0 : Fin 2) ?_
  have : q.val ≠ q'.val := fun e => h (Fin.ext e)
  show 192 * q.val + 192 ≤ 192 * q'.val ∨ 192 * q'.val + 192 ≤ 192 * q.val
  omega

theorem slots_disjoint {b b' : Dev nD} (h : b ≠ b') : Disjoint (slotR b).set (slotR b').set := by
  refine Rect.unit_disjoint (0 : Fin 3) ?_
  have : b.val ≠ b'.val := fun e => h (Fin.ext e)
  show b.val + 1 ≤ b'.val ∨ b'.val + 1 ≤ b.val
  omega

/-- The row blocks cover the buffer, the chunks cover it, a chunk is its two halves, the slots cover theirs. -/
theorem rows_cover : Finset.univ.biUnion (fun b : Dev nD => (rowR b).set) = (Finset.univ : Finset S768x768.Idx) := by
  refine Finset.eq_univ_iff_forall.mpr fun i => Finset.mem_biUnion.mpr ?_
  have h0 : (i 0).val < 768 := (i 0).isLt
  have h1 : (i 1).val < 768 := (i 1).isLt
  refine ⟨⟨(i 0).val / 96, by show _ < 8; omega⟩, Finset.mem_univ _, Rect.mem_set_unit.mpr fun a => ?_⟩
  fin_cases a
  · show 96 * ((i 0).val / 96) ≤ (i 0).val ∧ (i 0).val < 96 * ((i 0).val / 96) + 96; omega
  · show 0 ≤ (i 1).val ∧ (i 1).val < 0 + 768; omega

theorem chunks_cover : Finset.univ.biUnion (fun q : Fin 4 => (chunkR q).set) = (Finset.univ : Finset S768x768.Idx) := by
  refine Finset.eq_univ_iff_forall.mpr fun i => Finset.mem_biUnion.mpr ?_
  have h0 : (i 0).val < 768 := (i 0).isLt
  have h1 : (i 1).val < 768 := (i 1).isLt
  refine ⟨⟨(i 0).val / 192, by omega⟩, Finset.mem_univ _, Rect.mem_set_unit.mpr fun a => ?_⟩
  fin_cases a
  · show 192 * ((i 0).val / 192) ≤ (i 0).val ∧ (i 0).val < 192 * ((i 0).val / 192) + 192; omega
  · show 0 ≤ (i 1).val ∧ (i 1).val < 0 + 768; omega

theorem slots_cover : Finset.univ.biUnion (fun b : Dev nD => (slotR b).set) = (Finset.univ : Finset S8x96x768.Idx) := by
  refine Finset.eq_univ_iff_forall.mpr fun i => Finset.mem_biUnion.mpr ?_
  have h0 : (i 0).val < 8 := (i 0).isLt
  have h1 : (i 1).val < 96 := (i 1).isLt
  have h2 : (i 2).val < 768 := (i 2).isLt
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 96; omega
  · show 0 ≤ (i 2).val ∧ (i 2).val < 0 + 768; omega

theorem chunk_halves (q : Fin 4) : (chunkR q).set = (rowR (blockOf q 0)).set ∪ (rowR (blockOf q 1)).set := by
  ext i
  rw [Finset.mem_union]
  simp only [Rect.mem_set_unit]
  have h1 : (i 1).val < 768 := (i 1).isLt
  have key : ∀ (o m : ℕ), (∀ a : Fin 2, (![o, 0] : Fin 2 → ℕ) a ≤ (i a).val ∧ (i a).val < (![o, 0] : Fin 2 → ℕ) a + (![m, 768] : Fin 2 → ℕ) a)
      ↔ (o ≤ (i 0).val ∧ (i 0).val < o + m) := by
    intro o m
    constructor
    · intro h; exact h 0
    · intro h a
      fin_cases a
      · exact h
      · show 0 ≤ (i 1).val ∧ (i 1).val < 0 + 768; omega
  refine (key (192 * q.val) 192).trans (Iff.trans ?_ (or_congr (key (96 * (2 * q.val + 0)) 96) (key (96 * (2 * q.val + 1)) 96)).symm)
  omega

/-! ## What a device computes -/

/-- The four operands as each device holds them: `x`, its columns of the two first weights, its rows of the last. -/
structure Ins (F : FTy → Type) where
  x : Dev nD → Vec F S768x768 .f32
  g : Dev nD → Vec F S768x1536 .f32
  u : Dev nD → Vec F S768x1536 .f32
  d : Dev nD → Vec F S1536x768 .f32

variable (I : Ins F)

/-- The weights in half precision, as the kernel keeps them. -/
def gB (c : Dev nD) : FVec F S768x1536 .bf16 := k0_pay1 (I.g c)
def uB (c : Dev nD) : FVec F S768x1536 .bf16 := k0_pay2 (I.u c)
def dB (c : Dev nD) : FVec F S1536x768 .bf16 := k0_pay3 (I.d c)

/-- Chunk `q` of the input. -/
def xChunk (c : Dev nD) (q : Fin 4) : Vec F S192x768 .f32 := fun i => I.x c ((chunkR q).emb i)

/-- Chunk `q` of device `c`'s partial product, in full and in half precision. -/
def chunkV (c : Dev nD) (q : Fin 4) : FVec F S192x768 .f32 := k0_pay4 (xChunk I c q) (gB I c) (uB I c) (dB I c)
def chunkB (c : Dev nD) (q : Fin 4) : FVec F S192x768 .bf16 := k0_pay5 (xChunk I c q) (gB I c) (uB I c) (dB I c)

/-- Row block `b` of device `c`'s partial product, in full and in half precision. -/
def pval (c b : Dev nD) : FVec F S96x768 .f32 := half (halfOf b) (chunkV I c (chunkOf b))
def pvalB (c b : Dev nD) : FVec F S96x768 .bf16 := half (halfOf b) (chunkB I c (chunkOf b))

/-- One received block added. -/
def addB (a : FVec F S96x768 .f32) (w : FVec F S96x768 .bf16) : FVec F S96x768 .f32 := addf a (extf .f32 w bitsLt_bf16_f32)

/-- Device `c`'s own block with the first `n` received blocks added. -/
def accTo (c : Dev nD) : (n : ℕ) → FVec F S96x768 .f32
  | 0 => shapeCast S96x768 (pval I c c) shapeCasts_S96x768_S96x768
  | n + 1 => addB (accTo c n) (pvalB I (peer c (Fin.ofNat 7 n)) c)

/-- Device `c`'s reduced block, and the same in half precision, which it sends to everyone. -/
def acc (c : Dev nD) : FVec F S96x768 .f32 := accTo I c 7
def accB (c : Dev nD) : FVec F S96x768 .bf16 := shapeCast S96x768 (truncf .bf16 (acc I c) bitsLt_bf16_f32) shapeCasts_S96x768_S96x768

/-- Row block `b` of the result on device `c`. -/
def blockV (c b : Dev nD) : FVec F S96x768 .f32 := if b = c then acc I c else extf .f32 (accB I b) bitsLt_bf16_f32

/-- The row block an index lies in, and its place in the block. -/
def blockIx (i : S768x768.Idx) : Dev nD := ⟨(i 0).val / 96, by have h : (i 0).val < 768 := (i 0).isLt; show _ < 8; omega⟩
def inBlock (i : S768x768.Idx) : S96x768.Idx := fun
  | ⟨0, _⟩ => ⟨(i 0).val % 96, Nat.mod_lt _ (by decide)⟩
  | ⟨1, _⟩ => ⟨(i 1).val, (i 1).isLt⟩

theorem row_emb_inBlock (i : S768x768.Idx) : (rowR (blockIx i)).emb (inBlock i) = i := by
  funext a
  apply Fin.ext
  fin_cases a
  · show 96 * ((i 0).val / 96) + 1 * ((i 0).val % 96) = (i 0).val; omega
  · show 0 + 1 * (i 1).val = (i 1).val; omega

/-- The result on device `c`. -/
def outV (c : Dev nD) : Vec F S768x768 .f32 := fun i => blockV I c (blockIx i) (inBlock i)

/-- Contents that read the result's block at every row block are the result. -/
theorem eq_outV (c : Dev nD) (f : Vec F S768x768 .f32)
    (h : ∀ b, oM.view.readAt (Elt F) (rowR b).toLoadRect f = blockV I c b) : f = outV I c := by
  funext i
  have := congrFun (h (blockIx i)) (inBlock i)
  unfold outV
  rw [← this]
  show f i = f ((rowR (blockIx i)).emb (inBlock i))
  rw [row_emb_inBlock]

/-! ## The payloads the kernel computes are these values -/

theorem xChunk_load (c : Dev nD) (q : Fin 4) : xM.view.readAt (Elt F) (chunkR q).toLoadRect (I.x c) = xChunk I c q := rfl

theorem pay13_eq (a : FVec F S96x768 .f32) (s t : Vec F S1x96x768 .bf16) :
    k0_pay13 a s t = addB (addB a (shapeCast S96x768 s shapeCasts_S1x96x768_S96x768)) (shapeCast S96x768 t shapeCasts_S1x96x768_S96x768) := rfl
theorem pay14_eq (a : FVec F S96x768 .f32) (r s t : Vec F S1x96x768 .bf16) :
    k0_pay14 a r s t = addB (addB (addB a (shapeCast S96x768 r shapeCasts_S1x96x768_S96x768)) (shapeCast S96x768 s shapeCasts_S1x96x768_S96x768))
      (shapeCast S96x768 t shapeCasts_S1x96x768_S96x768) := rfl
theorem pay15_eq (a : FVec F S96x768 .f32) (s t : Vec F S1x96x768 .bf16) :
    k0_pay15 a s t = addB (addB a (shapeCast S96x768 s shapeCasts_S1x96x768_S96x768)) (shapeCast S96x768 t shapeCasts_S1x96x768_S96x768) := rfl
theorem pay16_eq (a : FVec F S96x768 .f32) (s t : Vec F S1x96x768 .bf16) :
    k0_pay16 a s t = shapeCast S96x768 (truncf .bf16 (k0_pay15 a s t) bitsLt_bf16_f32) shapeCasts_S96x768_S96x768 := rfl

/-- A landed block loaded through its slot, as the kernel loads it, is the block. -/
theorem rs_load (q : Dev nD) (f : Vec F S8x96x768 .bf16) :
    shapeCast S96x768 (rM.view.readAt (Elt F) (slotR q).toLoadRect f) shapeCasts_S1x96x768_S96x768 = (rsM q).view.read (Elt F) f := rfl
theorem ag_load (q : Dev nD) (f : Vec F S8x96x768 .bf16) :
    shapeCast S96x768 (bM.view.readAt (Elt F) (slotR q).toLoadRect f) shapeCasts_S1x96x768_S96x768 = (agM q).view.read (Elt F) f := rfl

end Cert.Mlp

end
-- ==== Proof.Schedule.lean ====
/-
# The protocol

Every semaphore cell has one round. A barrier cell takes one unit from each other device, which hands over its slots for
this device's blocks in both landing buffers. A receive cell takes one block's credit and hands over the slot with the
block in it; a send cell takes the same credit and hands back what the transfer read. The levels order the waits:
barrier, first exchange, second exchange.
-/
module

public import proofs.«01_k».proof.Proof.Contents
public import Mathlib.Algebra.BigOperators.Intervals

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What is handed over -/

/-- Device `c`'s slot `q` of the first and of the second landing buffer, and its row block `b` of the send buffer. -/
def rsPts (c q : Dev nD) (f : Vec F S8x96x768 .bf16) : sProp 𝕄 := (rsM q).view.loc (c : Thread nD τ) ↦[(rsM q).view.set]{fullShare} f
def agPts (c q : Dev nD) (f : Vec F S8x96x768 .bf16) : sProp 𝕄 := (agM q).view.loc (c : Thread nD τ) ↦[(agM q).view.set]{fullShare} f
def rowPts (c b : Dev nD) (f : Vec F S768x768 .bf16) : sProp 𝕄 := (rowM b).view.loc (c : Thread nD τ) ↦[(rowM b).view.set]{fullShare} f
/-- Device `c`'s reduced block as the second exchange reads it: the share for the transfer to `p`. -/
def aPts (c : Dev nD) (q : PosShare TreeShare) (f : Vec F S96x768 .bf16) : sProp 𝕄 := aM.view.loc (c : Thread nD τ) ↦[aM.view.set]{q} f
abbrev shareOf (p : Dev nD) : PosShare TreeShare := Transfers.shareTok fullShare 8 p

variable (I : Ins F)

/-- What device `d`'s barrier signal hands device `c`. -/
def barPay (c d : Dev nD) : sProp 𝕄 := iprop((∃ f, rsPts d c f) ∗ ∃ f, agPts d c f)

/-- What the credit on device `c`'s member `p` of semaphore array `a` hands it. -/
def xferPay (a : Fin 4) (c p : Dev nD) : sProp 𝕄 :=
  match a with
  | 0 => iprop(∃ f, rowPts c p f)
  | 1 => iprop(∃ f, ⌜(rsM p).view.read (Elt F) f = pvalB I p c⌝ ∗ rsPts c p f)
  | 2 => aPts c (shareOf p) (accB I c)
  | 3 => iprop(∃ f, ⌜(agM p).view.read (Elt F) f = accB I p⌝ ∗ agPts c p f)

instance barPay_storable (c d : Dev nD) : BI.Storable (upEmb : UEmb _ 𝕄) (barPay (F := F) c d) := by
  unfold barPay rsPts agPts; infer_instance
instance xferPay_storable (a : Fin 4) (c p : Dev nD) : BI.Storable (upEmb : UEmb _ 𝕄) (xferPay (F := F) I a c p) := by
  fin_cases a <;> (unfold xferPay rowPts rsPts agPts aPts; dsimp only; infer_instance)

/-- Which of the kernel's own semaphores a semaphore is. -/
def keyOf (s : SemLoc sig) : Option (Fin 4 × Dev nD) := by
  classical exact if h : ∃ k, osem k = s then some h.choose else none

theorem keyOf_osem (k : Fin 4 × Dev nD) : keyOf (osem k) = some k := by
  have h : ∃ k', osem k' = osem k := ⟨k, rfl⟩
  unfold keyOf
  rw [dif_pos h]
  exact congrArg some (osem_inj h.choose_spec)

/-- The schedule: one round, round 0. -/
def mlpRd : Rounds.Schedule (GSem nD τ sig) (Dev nD) 𝕄 where
  duties g r :=
    if r = 0 ∧ g.1.2 = .tc then
      if g.2 = .reg barS then Finset.univ.erase g.1.1
      else match keyOf g.2 with | some k => (if k.2 = g.1.1 then ∅ else {0}) | none => ∅
    else ∅
  unitless _ := False
  amount g _ _ := if g.2 = .reg barS then 1 else N
  payload g _ d :=
    if g.2 = .reg barS then barPay g.1.1 d
    else match keyOf g.2 with | some k => xferPay I k.1 g.1.1 k.2 | none => iprop(emp)
  amount_pos g _ _ _ := by
    by_cases h : g.2 = .reg barS
    · rw [if_pos h]; exact Nat.one_pos
    · rw [if_neg h]; exact N_pos

instance mlpRd_payload_storable (g : GSem nD τ sig) (r : ℕ) (d : Dev nD) :
    BI.Storable (upEmb : UEmb _ 𝕄) ((mlpRd (F := F) I).payload g r d) := by
  show BI.Storable upEmb (if g.2 = .reg barS then barPay g.1.1 d
    else match keyOf g.2 with | some k => xferPay I k.1 g.1.1 k.2 | none => iprop(emp))
  (repeat' split) <;> infer_instance

section Sched

variable (a : Fin 4) (c p d : Dev nD)

theorem duties_bar : (mlpRd (F := F) I).duties (barCell c) 0 = Finset.univ.erase c := by
  dsimp only [mlpRd]; rw [if_pos ⟨rfl, rfl⟩, if_pos rfl]
theorem duties_self : (mlpRd (F := F) I).duties (cell a c c) 0 = ∅ := by
  dsimp only [mlpRd]; rw [if_pos ⟨rfl, rfl⟩, if_neg (osem_ne_bar _), keyOf_osem]; exact if_pos rfl
theorem duties_xfer (h : p ≠ c) : (mlpRd (F := F) I).duties (cell a c p) 0 = {0} := by
  dsimp only [mlpRd]; rw [if_pos ⟨rfl, rfl⟩, if_neg (osem_ne_bar _), keyOf_osem]; exact if_neg h
theorem duties_later (g : GSem nD τ sig) : ∀ r, 1 ≤ r → (mlpRd (F := F) I).duties g r = ∅ :=
  fun r hr => by dsimp only [mlpRd]; rw [if_neg fun h => by omega]

theorem amount_bar : (mlpRd (F := F) I).amount (barCell c) 0 d = 1 := by dsimp only [mlpRd]; exact if_pos rfl
theorem amount_xfer : (mlpRd (F := F) I).amount (cell a c p) 0 d = N := by dsimp only [mlpRd]; exact if_neg (osem_ne_bar _)

theorem expect_bar : (mlpRd (F := F) I).expect (barCell c) 0 = 7 := by
  unfold Schedule.expect Schedule.amountOf
  rw [duties_bar, Finset.sum_congr rfl fun d _ => amount_bar I c d, Finset.sum_const, Finset.card_erase_of_mem (Finset.mem_univ _), Finset.card_univ,
    smul_eq_mul]
  rfl
theorem expect_xfer (h : p ≠ c) : (mlpRd (F := F) I).expect (cell a c p) 0 = N := by
  unfold Schedule.expect Schedule.amountOf; rw [duties_xfer I a c p h, Finset.sum_singleton, amount_xfer]

theorem payload_bar : (mlpRd (F := F) I).payload (barCell c) 0 d = barPay c d := by dsimp only [mlpRd]; exact if_pos rfl
theorem payload_xfer : (mlpRd (F := F) I).payload (cell a c p) 0 d = xferPay I a c p := by
  dsimp only [mlpRd]; rw [if_neg (osem_ne_bar _), keyOf_osem]

theorem rest_bar : bigSep ((mlpRd (F := F) I).duties (barCell c) 0 \ ∅) (fun d => (mlpRd (F := F) I).payload (barCell c) 0 d)
    = bigSep (Finset.univ.erase c) (fun d => barPay c d) := by
  rw [Finset.sdiff_empty, duties_bar]; exact bigSep_congr fun d _ => payload_bar I c d
theorem rest_xfer (h : p ≠ c) :
    bigSep ((mlpRd (F := F) I).duties (cell a c p) 0 \ ∅) (fun d => (mlpRd (F := F) I).payload (cell a c p) 0 d) = xferPay I a c p := by
  rw [Finset.sdiff_empty, duties_xfer I a c p h, bigSep_singleton, payload_xfer]

end Sched

/-! ## What a device owes, in the order it pays -/

/-- A device's `i`-th payment: a unit to each peer's barrier, then its blocks to their owners, then its reduced block. -/
def due (c : Dev nD) (i : ℕ) : CellTallies nD τ sig Unit :=
  if i < 7 then tallyAt (barCell (peer c (Fin.ofNat 7 i))) () 1
  else if i < 15 then (if sent c (Fin.ofNat 8 (i - 7)) = c then 0 else tallyAt (cell 1 (sent c (Fin.ofNat 8 (i - 7))) c) () N)
  else tallyAt (cell 3 (peer c (Fin.ofNat 7 (i - 15))) c) () N

/-- What is still owed before the `n`-th payment. -/
def Orem (c : Dev nD) (n : ℕ) : CellTallies nD τ sig Unit := ∑ i ∈ Finset.Ico n 22, due c i

theorem Orem_step (c : Dev nD) {n : ℕ} (h : n < 22) : Orem c n = Orem c (n + 1) + due c n := by
  unfold Orem; rw [Finset.sum_eq_sum_Ico_succ_bot h, add_comm]
theorem Orem_end (c : Dev nD) : Orem c 22 = 0 := by unfold Orem; rw [Finset.Ico_self, Finset.sum_empty]

theorem due_bar (c : Dev nD) (k : Fin 7) : due c k.val = tallyAt (barCell (peer c k)) () 1 := by
  unfold due; rw [if_pos k.isLt]; exact congrArg (fun j => tallyAt (barCell (peer c j)) () 1) (Fin.ext (Nat.mod_eq_of_lt k.isLt))
theorem due_rs (c : Dev nD) (n : Fin 8) : due c (7 + n.val) = if sent c n = c then 0 else tallyAt (cell 1 (sent c n) c) () N := by
  have h : Fin.ofNat 8 (7 + n.val - 7) = n := by rw [Nat.add_sub_cancel_left]; exact Fin.ext (Nat.mod_eq_of_lt n.isLt)
  have := n.isLt
  unfold due; rw [if_neg (by omega), if_pos (by omega), h]
theorem due_ag (c : Dev nD) (k : Fin 7) : due c (15 + k.val) = tallyAt (cell 3 (peer c k) c) () N := by
  have h : Fin.ofNat 7 (15 + k.val - 15) = k := by rw [Nat.add_sub_cancel_left]; exact Fin.ext (Nat.mod_eq_of_lt k.isLt)
  have := k.isLt
  unfold due; rw [if_neg (by omega), if_neg (by omega), h]

theorem Orem_bar (c : Dev nD) (k : Fin 7) : Orem c k.val = Orem c (k.val + 1) + tallyAt (barCell (peer c k)) () 1 := by
  have := k.isLt
  rw [Orem_step c (by omega), due_bar]
theorem Orem_rs (c : Dev nD) (n : Fin 8) (h : sent c n ≠ c) : Orem c (7 + n.val) = Orem c (7 + n.val + 1) + tallyAt (cell 1 (sent c n) c) () N := by
  have := n.isLt
  rw [Orem_step c (by omega), due_rs, if_neg h]
theorem Orem_skip (c : Dev nD) (n : Fin 8) (h : sent c n = c) : Orem c (7 + n.val) = Orem c (7 + n.val + 1) := by
  have := n.isLt
  rw [Orem_step c (by omega), due_rs, if_pos h, add_zero]
theorem Orem_ag (c : Dev nD) (k : Fin 7) : Orem c (15 + k.val) = Orem c (15 + k.val + 1) + tallyAt (cell 3 (peer c k) c) () N := by
  have := k.isLt
  rw [Orem_step c (by omega), due_ag]

/-! ## Levels -/

def L (g : GSem nD τ sig) : Finset Unit := if g.1.2 = .tc then {()} else ∅
/-- Barrier cells at 1, the first exchange's receive cells at 2, the second's at 3, everything else at 0. -/
def lv (g : GSem nD τ sig) (_ : Unit) : ℕ :=
  if g.2 = .reg barS then 1 else match keyOf g.2 with | some k => (if k.1 = 1 then 2 else if k.1 = 3 then 3 else 0) | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_cell (a : Fin 4) (c p : Dev nD) : lv (cell a c p) () = if a = 1 then 2 else if a = 3 then 3 else 0 := by
  unfold lv; rw [if_neg (osem_ne_bar _), keyOf_osem]

/-- The least level still owed before the `n`-th payment. -/
def least (n : ℕ) : ℕ := if n < 7 then 1 else if n < 15 then 2 else 3

theorem due_pos {c : Dev nD} {i : ℕ} {g : GSem nD τ sig} {u : Unit} (h : 0 < due c i g u) : g.1.2 = .tc ∧ least i ≤ lv g () := by
  have key : ∀ {g' : GSem nD τ sig} {k : ℕ}, 0 < (tallyAt g' () k : CellTallies nD τ sig Unit) g u → g = g' := by
    intro g' k h'
    rw [tallyAt_apply] at h'
    by_contra hn
    rw [if_neg (fun e => hn e.1)] at h'
    exact Nat.lt_irrefl 0 h'
  unfold due at h
  unfold least
  split at h
  · next hi => rw [key h, if_pos hi, lv_bar]; exact ⟨rfl, le_rfl⟩
  · next hi =>
    split at h
    · next hj =>
      split at h
      · exact absurd h (Nat.lt_irrefl 0)
      · rw [key h, if_neg hi, if_pos hj, lv_cell]; exact ⟨rfl, le_rfl⟩
    · next hj => rw [key h, if_neg hi, if_neg hj, lv_cell]; exact ⟨rfl, le_rfl⟩

theorem least_mono {n i : ℕ} (h : n ≤ i) : least n ≤ least i := by unfold least; split_ifs <;> omega

theorem Orem_pos {c : Dev nD} {n : ℕ} {g : GSem nD τ sig} {u : Unit} (h : 0 < Orem c n g u) : g.1.2 = .tc ∧ least n ≤ lv g () := by
  unfold Orem at h
  rw [Finset.sum_apply, Finsupp.finsetSum_apply] at h
  obtain ⟨i, hi, hp⟩ : ∃ i ∈ Finset.Ico n 22, 0 < due c i g u := by
    by_contra hn
    push Not at hn
    rw [Finset.sum_eq_zero fun i hi => Nat.le_zero.mp (hn i hi)] at h
    exact Nat.lt_irrefl 0 h
  exact ⟨(due_pos hp).1, (least_mono (Finset.mem_Ico.mp hi).1).trans (due_pos hp).2⟩

/-- A device may wait on a cell below every level it still owes. -/
theorem mayWait (c : Dev nD) (sm : SemLoc sig) (n : ℕ) (h : lv ((c : Thread nD τ), sm) () < least n) :
    (levAts L lv : sProp 𝕄) ⊢ MayWait (c : Thread nD τ) sm () (Orem c n) :=
  MayOwe.of_cut (L := L) (lev := lv) (lv ((c : Thread nD τ), sm) ())
    (fun p hp => by rw [Finset.mem_singleton.mp hp, L_tc]; exact Finset.mem_singleton_self _)
    (fun g u hg => by unfold L; rw [if_pos (Orem_pos hg).1]; exact Finset.mem_singleton_self _)
    (fun p hp => by rw [Finset.mem_singleton.mp hp])
    (fun g u hg => lt_of_lt_of_le h (Orem_pos hg).2)

/-! ## The launch's cells and records -/

/-- The cells of a device: its barrier, and its own semaphores. -/
def csem : Option (Fin 4 × Dev nD) → SemLoc sig | none => .reg barS | some k => osem k
abbrev kcell (ck : Dev nD × Option (Fin 4 × Dev nD)) : GSem nD τ sig := ((ck.1 : Thread nD τ), csem ck.2)

/-- The invariants of all the cells, under the names `K`, and that each has reached its round. -/
def records (K : Dev nD × Option (Fin 4 × Dev nD) → ℕ) : sProp 𝕄 :=
  iprop(bigSep Finset.univ (fun ck => cellInv ER (mlpRd I) (K ck) (kcell ck)) ∗ bigSep Finset.univ fun ck => reached ER (kcell ck) 0)

instance records_persistent (K) : BI.Persistent (records (F := F) I K) := by unfold records; infer_instance

theorem records_inv (K) (ck) : records (F := F) I K ⊢ cellInv ER (mlpRd I) (K ck) (kcell ck) := by
  unfold records; exact sep_elim_left.trans (bigSep_elim (Finset.mem_univ ck))
theorem records_reached (K) (ck) : records (F := F) I K ⊢ reached ER (kcell ck) 0 := by
  unfold records; exact sep_elim_right.trans (bigSep_elim (Finset.mem_univ ck))

end Cert.Mlp

end
-- ==== Proof.Steps.lean ====
/-
# The steps

One lemma for each kind of step the kernel takes, at a symbolic device, peer and block: a barrier signal, the barrier
wait, a transfer of either exchange, a wait on a transfer's cell.
-/
module

public import proofs.«01_k».proof.Proof.Schedule

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A family of resources worked through in order -/

/-- The members below `k` are done, the others still to do. -/
def prog (n : ℕ) (k : ℕ) (Pre Post : Fin n → sProp 𝕄) : sProp 𝕄 :=
  bigSep Finset.univ fun i : Fin n => if i.val < k then Post i else Pre i

theorem prog_start (n : ℕ) (Pre Post : Fin n → sProp 𝕄) : prog n 0 Pre Post = bigSep Finset.univ Pre := rfl
theorem prog_end (n : ℕ) (Pre Post : Fin n → sProp 𝕄) : prog n n Pre Post = bigSep Finset.univ Post :=
  bigSep_congr fun i _ => if_pos i.isLt

/-- One member of a family apart. -/
theorem bigSep_apart {α : Type} [DecidableEq α] {S : Finset α} {i : α} (h : i ∈ S) (Φ : α → sProp 𝕄) :
    bigSep S Φ = iprop(Φ i ∗ bigSep (S.erase i) Φ) := BI.bigSep_erase h

/-- Working the next member. -/
theorem prog_step (n : ℕ) (k : Fin n) (Pre Post : Fin n → sProp 𝕄) :
    prog n k.val Pre Post ⊢ iprop(Pre k ∗ (Post k -∗ prog n (k.val + 1) Pre Post)) := by
  unfold prog
  rw [bigSep_apart (Finset.mem_univ k), bigSep_apart (Finset.mem_univ k) (fun i : Fin n => if i.val < k.val + 1 then Post i else Pre i),
    if_neg (Nat.lt_irrefl _), if_pos (Nat.lt_succ_self _)]
  have hrest : (bigSep (Finset.univ.erase k) fun i : Fin n => if i.val < k.val then Post i else Pre i)
      = bigSep (Finset.univ.erase k) fun i : Fin n => if i.val < k.val + 1 then Post i else Pre i :=
    bigSep_congr fun i hi => by
      have : i.val ≠ k.val := fun e => (Finset.mem_erase.mp hi).1 (Fin.ext e)
      by_cases h : i.val < k.val
      · rw [if_pos h, if_pos (by omega)]
      · rw [if_neg h, if_neg (by omega)]
  rw [hrest]
  iintro ⟨HP, HR⟩
  isplitl [HP]; · iexact HP
  iintro HQ
  isplitl [HQ]; · iexact HQ
  iexact HR

/-- Looking at a member already done. -/
theorem prog_look (n : ℕ) (k : ℕ) (i : Fin n) (h : i.val < k) (Pre Post : Fin n → sProp 𝕄) :
    prog n k Pre Post ⊢ iprop(Post i ∗ (Post i -∗ prog n k Pre Post)) := by
  unfold prog
  rw [bigSep_apart (Finset.mem_univ i), if_pos h]
  iintro ⟨HP, HR⟩
  isplitl [HP]; · iexact HP
  iintro HQ
  isplitl [HQ]; · iexact HQ
  iexact HR

/-- All devices are the device itself and its peers. -/
theorem bigSep_peers (c : Dev nD) (Φ : Dev nD → sProp 𝕄) :
    bigSep (Finset.univ.erase c) Φ = bigSep Finset.univ fun k : Fin 7 => Φ (peer c k) := by
  have h : Finset.univ.erase c = Finset.univ.map ⟨peer c, peer_inj c⟩ := by
    ext d
    simp only [Finset.mem_erase, Finset.mem_univ, and_true, Finset.mem_map, true_and, Function.Embedding.coeFn_mk]
    constructor
    · intro hd; exact (peers_univ c d).resolve_left hd
    · rintro ⟨k, rfl⟩; exact peer_ne c k
  rw [h, BI.bigSep_map]; rfl

theorem bigSep_devs (c : Dev nD) (Φ : Dev nD → sProp 𝕄) :
    bigSep Finset.univ Φ = iprop(Φ c ∗ bigSep Finset.univ fun k : Fin 7 => Φ (peer c k)) := by
  rw [bigSep_apart (Finset.mem_univ c), bigSep_peers]

/-- All devices are the blocks a device goes through, in its order. -/
theorem bigSep_sent (c : Dev nD) (Φ : Dev nD → sProp 𝕄) : bigSep Finset.univ Φ = bigSep Finset.univ fun n : Fin 8 => Φ (sent c n) :=
  bigSep_univ_equiv (Equiv.ofBijective (sent c) (sent_bij c)) Φ

/-! ## The steps' resources -/

abbrev 𝒱₀ : Variants := Variants.none

variable (I : Ins F) (K : Dev nD × Option (Fin 4 × Dev nD) → ℕ)

/-- What every step may read: the cells' invariants and marks, and the levels. -/
def ctx : sProp 𝕄 := iprop(records I K ∗ levAts L lv)
instance ctx_persistent : BI.Persistent (ctx (F := F) I K) := by unfold ctx; infer_instance

/-- What device `c` owes before its `n`-th payment, whatever it has waited for. -/
def Ow (c : Dev nD) (n : ℕ) : sProp 𝕄 := iprop(∃ W, owes (c : Thread nD τ) (Orem c n) W)

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem ctx_inv (ck) : ctx (F := F) I K ⊢ cellInv ER (mlpRd I) (K ck) (kcell ck) := by
  unfold ctx; exact sep_elim_left.trans (records_inv I K ck)
theorem ctx_reached (ck) : ctx (F := F) I K ⊢ reached ER (kcell ck) 0 := by
  unfold ctx; exact sep_elim_left.trans (records_reached I K ck)
theorem ctx_lev : ctx (F := F) I K ⊢ levAts L lv := by unfold ctx; exact sep_elim_right

/-! ## Signals -/

/-- What device `c`'s `k`-th signal hands over. -/
def sigPre (c : Dev nD) (k : Fin 7) : sProp 𝕄 :=
  iprop(dutyTok ER (barCell (peer c k)) 0 c ∗ (∃ f, rsPts c (peer c k) f) ∗ ∃ f, agPts c (peer c k) f)
def Sig (c : Dev nD) (k : ℕ) : sProp 𝕄 := prog 7 k (sigPre (F := F) c) (fun _ => iprop(emp))

theorem step_signal (c n : Dev nD) (k : Fin 7) (a' b' : ℕ) (ha : a' = k.val) (hb : b' = k.val + 1) (hn : n = peer c k) {k' : ℕ} (hk' : k' = 1) {α : Type} {Q : α → sProp 𝕄}
    {kk : PUnit → Prog (TpuEff nD τ sig (Elt F) Λ₀ .tc) α} :
    iprop(ctx I K ∗ Sig c a' ∗ Ow c a')
      ⊢ iprop(((Sig c b' ∗ Ow c b') -∗ wpc c (kk ⟨⟩) Q) -∗ wpc c (.op (.semSignal (Dev.tc n) barS k') kk) Q) := by
  subst hn hk' ha hb
  unfold Sig Ow
  iintro ⟨#Hctx, HS, ⟨%W, HO⟩⟩ Hk
  ihave H := (prog_step 7 k _ _) $$ HS
  icases H with ⟨HP, HB⟩
  unfold sigPre
  icases HP with ⟨HT, HR, HA⟩
  iapply (Rounds.wp_signal 𝒱₀ ER (mlpRd I) (c : Thread nD τ) none (dst := (peer c k : Thread nD τ)) (κ := K (peer c k, none))
      (d := c) (by rw [duties_bar]; exact Finset.mem_erase.mpr ⟨(peer_ne c k).symm, Finset.mem_univ _⟩) (amount_bar I (peer c k) c) ()
      (Orem c (k.val + 1)) (Orem_bar c k)) $$ [HO HT HR HA]
  · isplitr; · iapply (ctx_inv I K (peer c k, none)); iexact Hctx
    isplitl [HO]; · iexact HO
    isplitl [HT]; · iexact HT
    isplitl [HR HA]
    · rw [payload_bar]; unfold barPay
      isplitl [HR] <;> iassumption
    iapply (ctx_reached I K (peer c k, none)); iexact Hctx
  iintro HO
  iapply Hk
  isplitl [HB]; · iapply HB; iempintro
  iexists W; iexact HO

/-! ## The barrier wait -/

theorem step_bar (c : Dev nD) {k' : ℕ} (hk' : k' = 7) {α : Type} {Q : α → sProp 𝕄} {kk : PUnit → Prog (TpuEff nD τ sig (Elt F) Λ₀ .tc) α} :
    iprop(ctx I K ∗ Ow c 7 ∗ cred (tallyAt (barCell c) () 7) ∗ atPos ER (barCell c) 0 ∅ 0)
      ⊢ iprop(((Ow c 7 ∗ atPos ER (barCell c) 1 ∅ 0 ∗ bigSep (Finset.univ.erase c) fun d => barPay c d) -∗ wpc c (kk ⟨⟩) Q)
          -∗ wpc c (.op (.semWait barS k') kk) Q) := by
  subst hk'
  unfold Ow
  iintro ⟨#Hctx, ⟨%W, HO⟩, Hc, Hat⟩ Hk
  iapply (Rounds.wp_wait_rest_token 𝒱₀ ER (mlpRd I) (c : Thread nD τ) none (κ := K (c, none))
      (wpE_semWait_eq 𝒱₀ (c : Thread nD τ) none Set.univ) (Set.mem_univ _) () (O := Orem c 7) (W := W) (R := 0) (m := 0) (T := ∅)
      (by rw [expect_bar])) $$ [Hc HO Hat]
  · isplitr; · iapply (ctx_inv I K (c, none)); iexact Hctx
    isplitl [Hc]; · iexact Hc
    isplitl [HO]; · iexact HO
    isplitr
    · iapply (mayWait c (.reg barS) 7 (by rw [lv_bar]; decide)); iapply (ctx_lev I K); iexact Hctx
    iexact Hat
  iintro ⟨HO, Hat, -, Hp⟩
  ihave Hp := (Entails.of_eq (rest_bar I c)) $$ Hp
  iapply Hk
  isplitl [HO]; · iexists _; iexact HO
  isplitl [Hat]; · iexact Hat
  iexact Hp

/-! ## Waits on the transfers' cells -/

def waitPre (a : Fin 4) (c p : Dev nD) : sProp 𝕄 := iprop(cred (tallyAt (cell a c p) () N) ∗ atPos ER (cell a c p) 0 ∅ 0)
def waitPost (a : Fin 4) (c p : Dev nD) : sProp 𝕄 := iprop(atPos ER (cell a c p) 1 ∅ 0 ∗ xferPay I a c p)
/-- Device `c`'s waits on its semaphore array `a`, `k` of them made. -/
def Wt (a : Fin 4) (c : Dev nD) (k : ℕ) : sProp 𝕄 := prog 7 k (fun k => waitPre a c (peer c k)) (fun k => waitPost I a c (peer c k))

theorem step_wait (a : Fin 4) (c : Dev nD) (k : Fin 7) (a' b' : ℕ) (ha : a' = k.val) (hb : b' = k.val + 1) (n : ℕ) (hl : (if a = 1 then 2 else if a = 3 then 3 else 0) < least n ∨ n = 22)
    {s : DmaSem sig} (hs : s = semAt (arr a) (peer c k)) {spS spD : Space} {sS sD : Shape} {eS eD : EltTy}
    {src : Memref sig .tc spS sS eS} {dst : Memref sig .tc spD sD eD} {hsrc : src.view.WordExact} {hdst : dst.view.WordExact}
    (hN : dst.view.dmaCredit = N) {α : Type} {Q : α → sProp 𝕄} {kk : PUnit → Prog (TpuEff nD τ sig (Elt F) Λ₀ .tc) α} :
    iprop(ctx I K ∗ Ow c n ∗ Wt I a c a')
      ⊢ iprop(((Ow c n ∗ Wt I a c b') -∗ wpc c (kk ⟨⟩) Q) -∗ wpc c (.op (.waitDma2 s src dst hsrc hdst) kk) Q) := by
  subst hs ha hb
  unfold Ow Wt
  iintro ⟨#Hctx, ⟨%W, HO⟩, HW⟩ Hk
  ihave H := (prog_step 7 k _ _) $$ HW
  icases H with ⟨HP, HB⟩
  unfold waitPre
  icases HP with ⟨Hc, Hat⟩
  iapply (Rounds.wp_wait_rest_token 𝒱₀ ER (mlpRd I) (c : Thread nD τ) none (κ := K (c, some (a, peer c k)))
      (sm := osem (a, peer c k))
      (wpE_waitDma2_eq 𝒱₀ (c : Thread nD τ) none Set.univ) (Set.mem_univ _) () (O := Orem c n) (W := W) (R := 0) (m := 0) (T := ∅)
      (by rw [Nat.zero_add, hN]; exact (expect_xfer I a c (peer c k) (peer_ne c k)).symm)) $$ [Hc HO Hat]
  · isplitr; · iapply (ctx_inv I K (c, some (a, peer c k))); iexact Hctx
    isplitl [Hc]; · rw [hN]; iexact Hc
    isplitl [HO]; · iexact HO
    isplitr
    · rcases hl with hl | rfl
      · iapply (mayWait c (osem (a, peer c k)) n (by rw [lv_cell]; exact hl)); iapply (ctx_lev I K); iexact Hctx
      · rw [Orem_end, MayWait_zero]; iempintro
    iexact Hat
  iintro ⟨HO, Hat, -, Hp⟩
  ihave Hp := (Entails.of_eq (rest_xfer I a c (peer c k) (peer_ne c k))) $$ Hp
  iapply Hk
  isplitl [HO]; · iexists _; iexact HO
  iapply HB
  unfold waitPost
  isplitl [Hat]; · iexact Hat
  iexact Hp

/-! ## The first exchange's transfers -/

/-- Device `c`'s row block `b` in the send buffer, computed. -/
def rowV (c b : Dev nD) : sProp 𝕄 := iprop(∃ f, ⌜(rowM b).view.read (Elt F) f = pvalB I c b⌝ ∗ rowPts c b f)

def rsPre (c b : Dev nD) : sProp 𝕄 :=
  if b = c then iprop(emp) else iprop(dutyTok ER (cell 0 c b) 0 0 ∗ dutyTok ER (cell 1 b c) 0 0 ∗ ∃ f, rsPts b c f)
def rsPost (c b : Dev nD) : sProp 𝕄 := if b = c then iprop(∃ f, rowPts c c f) else cred (tallyAt (cell 0 c b) () N)
theorem rsPre_of {c b : Dev nD} (h : b ≠ c) :
    (rsPre c b : sProp 𝕄) = iprop(dutyTok ER (cell 0 c b) 0 0 ∗ dutyTok ER (cell 1 b c) 0 0 ∗ ∃ f, rsPts b c f) := if_neg h
theorem rsPost_of {c b : Dev nD} (h : b ≠ c) : (rsPost c b : sProp 𝕄) = cred (tallyAt (cell 0 c b) () N) := if_neg h
theorem rsPost_self {c b : Dev nD} (h : b = c) : (rsPost c b : sProp 𝕄) = iprop(∃ f, rowPts c c f) := if_pos h
/-- Device `c`'s first exchange, `n` of its blocks dealt with. -/
def Rs (c : Dev nD) (n : ℕ) : sProp 𝕄 := iprop(prog 8 n (fun n => rsPre (F := F) c (sent c n)) (fun n => rsPost c (sent c n)) ∗ Ow c (7 + n))

set_option maxHeartbeats 1000000 in
theorem step_rs_send (c n : Dev nD) (i : Fin 8) (hi : sent c i ≠ c) (hn : n = sent c i)
    {oB : Fin 2 → ℕ} (hB : oB = ![96 * (sent c i).val, 0]) {oD : Fin 3 → ℕ} (hD : oD = ![c.val, 0, 0])
    {inbB : ∀ a, oB a + S96x768.size a ≤ S768x768.size a} {inbD : ∀ a, oD a + S1x96x768.size a ≤ S8x96x768.size a}
    {sS sR : DmaSem sig} (hsS : sS = semAt (arr 0) (sent c i)) (hsR : sR = semAt (arr 1) c)
    {hsc : (((rM.slice (Rect.unit (s := S8x96x768) oD S1x96x768.size inbD) (fun _ => rfl)).squeeze S96x768 squeezes_S1x96x768_S96x768 :
      Memref sig (Dev.tc n : Thread nD τ).2.kind .vmem S96x768 .bf16)).view.ref.isScScratch = false}
    {hsrc : (sM.slice (Rect.unit (s := S768x768) oB S96x768.size inbB) (fun _ => rfl)).view.WordExact}
    {hdst : ((rM.slice (Rect.unit (s := S8x96x768) oD S1x96x768.size inbD) (fun _ => rfl)).squeeze S96x768 squeezes_S1x96x768_S96x768).view.WordExact}
    {hsem : DmaTarget.Typed .vmem (.dma sR) (.remote (Dev.tc n : Thread nD τ)
      ((rM.slice (Rect.unit (s := S8x96x768) oD S1x96x768.size inbD) (fun _ => rfl)).squeeze S96x768 squeezes_S1x96x768_S96x768) (.dma sS) hsc)}
    {α : Type} {Q : α → sProp 𝕄} {kk : PUnit → Prog (TpuEff nD τ sig (Elt F) Λ₀ .tc) α} :
    iprop(ctx I K ∗ Rs c i.val ∗ rowV I c (sent c i))
      ⊢ iprop((Rs c (i.val + 1) -∗ wpc c (kk ⟨⟩) Q)
          -∗ wpc c (.op (.enqueueDma (sM.slice (Rect.unit (s := S768x768) oB S96x768.size inbB) (fun _ => rfl))
              (.remote (Dev.tc n : Thread nD τ) ((rM.slice (Rect.unit (s := S8x96x768) oD S1x96x768.size inbD) (fun _ => rfl)).squeeze S96x768 squeezes_S1x96x768_S96x768)
                (.dma sS) hsc) (.dma sR) hsrc hdst hsem) kk) Q) := by
  subst hn hB hD hsS hsR
  unfold Rs Ow rowV
  iintro ⟨#Hctx, ⟨HR, ⟨%W, HO⟩⟩, ⟨%fs, %hfs, Hrow⟩⟩ Hk
  ihave H := (prog_step 8 i _ _) $$ HR
  icases H with ⟨HP, HB⟩
  ihave HP := (Entails.of_eq (rsPre_of hi)) $$ HP
  icases HP with ⟨HtS, HtR, ⟨%fd, Hslot⟩⟩
  unfold rowPts rsPts
  iapply (Rounds.wp_send_pointsTo 𝒱₀ ER (mlpRd I) (c : Thread nD τ) none (κ₁ := K (c, some (0, sent c i))) (κ₂ := K (sent c i, some (1, c)))
    (r₁ := 0) (r₂ := 0) (d₁ := 0) (d₂ := 0) (fd := fd)
    (by rw [duties_xfer I 0 c (sent c i) hi]; exact Finset.mem_singleton_self _)
    (by rw [duties_xfer I 1 (sent c i) c hi.symm]; exact Finset.mem_singleton_self _)
    () () N (by exact credit_rs c) (amount_xfer I 0 c (sent c i) 0) (amount_xfer I 1 (sent c i) c 0) (Orem c (7 + i.val + 1)) (Orem_rs c i hi) (W := W)
    (by
      rw [payload_xfer I 0 c (sent c i)]; unfold xferPay rowPts
      iintro H; iexists fs; iexact H)
    (by
      rw [payload_xfer I 1 (sent c i) c]; unfold xferPay rsPts
      iintro H; iexists _; isplitr; rotate_left; · iexact H
      ipureintro
      rw [View.read_write_univ, hfs])) $$ [Hrow Hslot HO HtS HtR]
  · isplitr; · iapply (ctx_inv I K (c, some (0, sent c i))); iexact Hctx
    isplitr; · iapply (ctx_inv I K (sent c i, some (1, c))); iexact Hctx
    isplitl [Hrow]; · iexact Hrow
    isplitl [Hslot]; · iexact Hslot
    isplitl [HO]; · iexact HO
    isplitl [HtS]; · iexact HtS
    isplitr; · iapply (ctx_reached I K (c, some (0, sent c i))); iexact Hctx
    isplitl [HtR]; · iexact HtR
    iapply (ctx_reached I K (sent c i, some (1, c))); iexact Hctx
  iintro ⟨Hc, HO⟩
  iapply Hk
  isplitl [HB Hc]; · iapply HB; rw [rsPost_of hi]; iexact Hc
  iexists W; iexact HO

/-- The device's own block is not sent. -/
theorem step_rs_skip (c : Dev nD) (i : Fin 8) (hi : sent c i = c) :
    iprop(Rs c i.val ∗ rowV I c (sent c i)) ⊢ (Rs (F := F) c (i.val + 1) : sProp 𝕄) := by
  unfold Rs Ow rowV
  rw [Orem_skip c i hi]
  iintro ⟨⟨HR, HO⟩, ⟨%fs, %hfs, Hrow⟩⟩
  ihave H := (prog_step 8 i _ _) $$ HR
  icases H with ⟨-, HB⟩
  isplitl [HB Hrow]
  · iapply HB
    rw [rsPost_self hi, hi]
    iexists fs; iexact Hrow
  iexact HO

/-! ## The second exchange's transfers -/

def agPre (c p : Dev nD) : sProp 𝕄 :=
  iprop(dutyTok ER (cell 2 c p) 0 0 ∗ dutyTok ER (cell 3 p c) 0 0 ∗ ∃ f, agPts p c f)
def agPost (c p : Dev nD) : sProp 𝕄 := cred (tallyAt (cell 2 c p) () N)
/-- Device `c`'s second exchange, `k` of its transfers started. -/
def Ag (c : Dev nD) (k : ℕ) : sProp 𝕄 :=
  iprop(prog 7 k (fun k => iprop(agPre c (peer c k) ∗ aPts c (shareOf (peer c k)) (accB I c))) (fun k => agPost c (peer c k)) ∗ Ow c (15 + k))

theorem step_ag_send (c n : Dev nD) (k : Fin 7) (a' b' : ℕ) (ha : a' = k.val) (hb : b' = k.val + 1) (hn : n = peer c k) {oD : Fin 3 → ℕ} (hD : oD = ![c.val, 0, 0])
    {inbD : ∀ a, oD a + S1x96x768.size a ≤ S8x96x768.size a}
    {sS sR : DmaSem sig} (hsS : sS = semAt (arr 2) (peer c k)) (hsR : sR = semAt (arr 3) c)
    {hsc : (((bM.slice (Rect.unit (s := S8x96x768) oD S1x96x768.size inbD) (fun _ => rfl)).squeeze S96x768 squeezes_S1x96x768_S96x768 :
      Memref sig (Dev.tc n : Thread nD τ).2.kind .vmem S96x768 .bf16)).view.ref.isScScratch = false}
    {hsrc : aM.view.WordExact}
    {hdst : ((bM.slice (Rect.unit (s := S8x96x768) oD S1x96x768.size inbD) (fun _ => rfl)).squeeze S96x768 squeezes_S1x96x768_S96x768).view.WordExact}
    {hsem : DmaTarget.Typed .vmem (.dma sR) (.remote (Dev.tc n : Thread nD τ)
      ((bM.slice (Rect.unit (s := S8x96x768) oD S1x96x768.size inbD) (fun _ => rfl)).squeeze S96x768 squeezes_S1x96x768_S96x768) (.dma sS) hsc)}
    {α : Type} {Q : α → sProp 𝕄} {kk : PUnit → Prog (TpuEff nD τ sig (Elt F) Λ₀ .tc) α} :
    iprop(ctx I K ∗ Ag I c a')
      ⊢ iprop((Ag I c b' -∗ wpc c (kk ⟨⟩) Q)
          -∗ wpc c (.op (.enqueueDma aM
              (.remote (Dev.tc n : Thread nD τ) ((bM.slice (Rect.unit (s := S8x96x768) oD S1x96x768.size inbD) (fun _ => rfl)).squeeze S96x768 squeezes_S1x96x768_S96x768)
                (.dma sS) hsc) (.dma sR) hsrc hdst hsem) kk) Q) := by
  subst hn hD hsS hsR ha hb
  unfold Ag Ow
  iintro ⟨#Hctx, ⟨HR, ⟨%W, HO⟩⟩⟩ Hk
  ihave H := (prog_step 7 k _ _) $$ HR
  icases H with ⟨⟨HP, Ha⟩, HB⟩
  unfold agPre agPost
  icases HP with ⟨HtS, HtR, ⟨%fd, Hslot⟩⟩
  unfold aPts agPts
  have hne := peer_ne c k
  iapply (Rounds.wp_send_pointsTo 𝒱₀ ER (mlpRd I) (c : Thread nD τ) none (κ₁ := K (c, some (2, peer c k))) (κ₂ := K (peer c k, some (3, c)))
    (r₁ := 0) (r₂ := 0) (d₁ := 0) (d₂ := 0) (fd := fd)
    (by rw [duties_xfer I 2 c (peer c k) hne]; exact Finset.mem_singleton_self _)
    (by rw [duties_xfer I 3 (peer c k) c hne.symm]; exact Finset.mem_singleton_self _)
    () () N (by exact credit_ag c) (amount_xfer I 2 c (peer c k) 0) (amount_xfer I 3 (peer c k) c 0) (Orem c (15 + k.val + 1)) (Orem_ag c k) (W := W)
    (by
      rw [payload_xfer I 2 c (peer c k)]; unfold xferPay aPts
      exact BI.Entails.refl _)
    (by
      rw [payload_xfer I 3 (peer c k) c]; unfold xferPay agPts
      iintro H; iexists _; isplitr; rotate_left; · iexact H
      ipureintro
      rw [View.read_write_univ]
      exact View.read_whole _ _)) $$ [Ha Hslot HO HtS HtR]
  · isplitr; · iapply (ctx_inv I K (c, some (2, peer c k))); iexact Hctx
    isplitr; · iapply (ctx_inv I K (peer c k, some (3, c))); iexact Hctx
    isplitl [Ha]; · iexact Ha
    isplitl [Hslot]; · iexact Hslot
    isplitl [HO]; · iexact HO
    isplitl [HtS]; · iexact HtS
    isplitr; · iapply (ctx_reached I K (c, some (2, peer c k))); iexact Hctx
    isplitl [HtR]; · iexact HtR
    iapply (ctx_reached I K (peer c k, some (3, c))); iexact Hctx
  iintro ⟨Hc, HO⟩
  iapply Hk
  isplitl [HB Hc]; · iapply HB; iexact Hc
  iexists W; iexact HO

end Cert.Mlp

end
-- ==== Proof.Blocks.lean ====
/-
# The steps over blocks

The kernel's trip over one chunk, a transfer it makes or passes over, and its loads and stores of one row block or one
slot, each stated once for every chunk, block and peer.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Fin 4 × Dev nD) → ℕ)

/-- A program's end. -/
theorem wpc_ret {c : Dev nD} {α : Type} {a : α} {Q : α → sProp 𝕄} : Q a ⊢ wpc (F := F) c (.ret a) Q := by
  unfold wpc; rw [wp_ret]; exact fupd_intro

/-! ## A transfer made or passed over -/

set_option maxHeartbeats 1000000 in
/-- The kernel sends a block exactly when the block is another device's. -/
theorem step_cond (c : Dev nD) (i : Fin 8) (a' b' : ℕ) (ha : a' = i.val) (hb : b' = i.val + 1) {P : Prop} [Decidable P] (hc : P ↔ sent c i ≠ c) {n : P → Dev nD} (hn : ∀ h, n h = sent c i)
    {oB : Fin 2 → ℕ} (hB : oB = ![96 * (sent c i).val, 0]) {oD : Fin 3 → ℕ} (hD : oD = ![c.val, 0, 0])
    {inbB : P → ∀ a, oB a + S96x768.size a ≤ S768x768.size a} {inbD : P → ∀ a, oD a + S1x96x768.size a ≤ S8x96x768.size a}
    {sS sR : P → DmaSem sig} (hsS : ∀ h, sS h = semAt (arr 0) (sent c i)) (hsR : ∀ h, sR h = semAt (arr 1) c)
    {hsc : ∀ h : P, (((rM.slice (Rect.unit (s := S8x96x768) oD S1x96x768.size (inbD h)) (fun _ => rfl)).squeeze S96x768 squeezes_S1x96x768_S96x768 :
      Memref sig (Dev.tc (n h) : Thread nD τ).2.kind .vmem S96x768 .bf16)).view.ref.isScScratch = false}
    {hsrc : ∀ h : P, (sM.slice (Rect.unit (s := S768x768) oB S96x768.size (inbB h)) (fun _ => rfl)).view.WordExact}
    {hdst : ∀ h : P, ((rM.slice (Rect.unit (s := S8x96x768) oD S1x96x768.size (inbD h)) (fun _ => rfl)).squeeze S96x768
      squeezes_S1x96x768_S96x768).view.WordExact}
    {hsem : ∀ h : P, DmaTarget.Typed .vmem (.dma (sR h)) (.remote (Dev.tc (n h) : Thread nD τ)
      ((rM.slice (Rect.unit (s := S8x96x768) oD S1x96x768.size (inbD h)) (fun _ => rfl)).squeeze S96x768 squeezes_S1x96x768_S96x768) (.dma (sS h)) (hsc h))}
    {α : Type} {Q : α → sProp 𝕄} {kk : Prog (TpuEff nD τ sig (Elt F) Λ₀ .tc) α} :
    iprop(ctx I K ∗ Rs c a' ∗ rowV I c (sent c i))
      ⊢ iprop((Rs c b' -∗ wpc c kk Q)
          -∗ wpc c (if h : P then
              .op (.enqueueDma (sM.slice (Rect.unit (s := S768x768) oB S96x768.size (inbB h)) (fun _ => rfl))
              (.remote (Dev.tc (n h) : Thread nD τ) ((rM.slice (Rect.unit (s := S8x96x768) oD S1x96x768.size (inbD h)) (fun _ => rfl)).squeeze S96x768
                squeezes_S1x96x768_S96x768) (.dma (sS h)) (hsc h)) (.dma (sR h)) (hsrc h) (hdst h) (hsem h)) (fun _ => kk)
              else kk) Q) := by
  subst ha hb
  by_cases h : P
  · rw [dif_pos h]
    exact step_rs_send (kk := fun _ => kk) I K c (n h) i (hc.mp h) (hn h) hB hD (hsS h) (hsR h)
  · rw [dif_neg h]
    iintro ⟨-, HR, Hrow⟩ Hk
    iapply Hk
    iapply (step_rs_skip I c i (not_not.mp fun e => h (hc.mpr e)))
    isplitl [HR] <;> iassumption

/-! ## One chunk -/

/-- Chunk `q` of the send buffer. -/
abbrev chM (q : Fin 4) : Memref sig .tc .vmem S192x768 .bf16 := sM.slice (chunkR q) (fun _ => rfl)
def chPts (c : Dev nD) (q : Fin 4) (f : Vec F S768x768 .bf16) : sProp 𝕄 := (chM q).view.loc (c : Thread nD τ) ↦[(chM q).view.set]{fullShare} f

/-- The input and the three weights in half precision. -/
def opsV (c : Dev nD) : sProp 𝕄 :=
  iprop((xM.view.loc (c : Thread nD τ) ↦{fullShare} I.x c) ∗ (gbM.view.loc (c : Thread nD τ) ↦{fullShare} gB I c)
    ∗ (ubM.view.loc (c : Thread nD τ) ↦{fullShare} uB I c) ∗ (dbM.view.loc (c : Thread nD τ) ↦{fullShare} dB I c))

/-- The result's buffer after `r` chunks, and the send buffer's chunks not yet computed. -/
def outC (c : Dev nD) (r : ℕ) : sProp 𝕄 :=
  iprop(∃ f : Vec F S768x768 .f32, ⌜∀ j : Fin 4, j.val < r → oM.view.readAt (Elt F) (chunkR (chunkIx c j)).toLoadRect f = chunkV I c (chunkIx c j)⌝
    ∗ (oM.view.loc (c : Thread nD τ) ↦{fullShare} f))
def chRest (c : Dev nD) (r : ℕ) : sProp 𝕄 := prog 4 r (fun j => iprop(∃ f, chPts (F := F) c (chunkIx c j) f)) (fun _ => iprop(emp))
def Ch (c : Dev nD) (r : ℕ) : sProp 𝕄 := iprop(opsV I c ∗ outC I c r ∗ chRest (F := F) c r)

theorem chunkIx_ne : ∀ (c : Dev nD) (j r : Fin 4), j ≠ r → chunkIx c r ≠ chunkIx c j := by decide

theorem halves_ne : ∀ q : Fin 4, blockOf q 0 ≠ blockOf q 1 := by decide
theorem chunkIx_surj : ∀ c b : Dev nD, ∃ r : Fin 4, chunkIx c r = chunkOf b := by decide

/-- A landing slot's elements. -/
theorem rsM_set (b : Dev nD) : (rsM b).view.set = rM.view.setOn (slotR b).set := (View.set_reshape _ _).trans (View.set_slice _ _)
theorem agM_set (b : Dev nD) : (agM b).view.set = bM.view.setOn (slotR b).set := (View.set_reshape _ _).trans (View.set_slice _ _)

/-- A chunk held whole is its two row blocks held. -/
theorem ch_split (c : Dev nD) (q : Fin 4) (f : Vec F S768x768 .bf16) :
    (chPts c q f : sProp 𝕄) ⊢ iprop(rowPts c (blockOf q 0) f ∗ rowPts c (blockOf q 1) f) := by
  have hs : (chM q).view.set = (rowM (blockOf q 0)).view.set ∪ (rowM (blockOf q 1)).view.set := by
    show (sM.view.slice (chunkR q)).set = (sM.view.slice (rowR (blockOf q 0))).set ∪ (sM.view.slice (rowR (blockOf q 1))).set
    rw [View.set_slice, View.set_slice, View.set_slice, ← Finset.map_union, ← chunk_halves]
  have hd : Disjoint (rowM (blockOf q 0)).view.set (rowM (blockOf q 1)).view.set := by
    show Disjoint (sM.view.slice (rowR (blockOf q 0))).set (sM.view.slice (rowR (blockOf q 1))).set
    rw [View.set_slice, View.set_slice]
    exact (Finset.disjoint_map _).mpr (rows_disjoint (halves_ne q))
  unfold chPts rowPts
  rw [hs]
  exact (pointsTo_union hd).1

/-- A row block of a chunk just stored reads the block's values. -/
theorem row_of_chunk (c b : Dev nD) (f : Vec F S768x768 .bf16) :
    (rowM b).view.read (Elt F) ((sM.access (chunkR (chunkOf b))).write (Elt F) f (chunkB I c (chunkOf b)) Finset.univ) = pvalB I c b := by
  have h := readAt_row sM.view b ((sM.access (chunkR (chunkOf b))).write (Elt F) f (chunkB I c (chunkOf b)) Finset.univ)
  rw [View.readAt_rect] at h
  refine h.trans ?_
  unfold pvalB
  congr 1
  exact readAt_write_same sM.view (chunkR (chunkOf b)) f _

theorem sent_pair (c : Dev nD) (r : Fin 4) (n m : Fin 8) (hn : n.val = 2 * r.val) (hm : m.val = 2 * r.val + 1) :
    sent c n = blockOf (chunkIx c r) 0 ∧ sent c m = blockOf (chunkIx c r) 1 := by
  have h : ∀ (c : Dev nD) (r : Fin 4) (n m : Fin 8), n.val = 2 * r.val → m.val = 2 * r.val + 1 →
      sent c n = blockOf (chunkIx c r) 0 ∧ sent c m = blockOf (chunkIx c r) 1 := by decide +kernel
  exact h c r n m hn hm

/-- An access at the origin. -/
theorem origin : (![0, 0] : Fin 2 → Nat) = fun _ => 0 := by
  ext a
  rcases a with ⟨_ | _ | _, h⟩ <;> first | rfl | omega

set_option maxHeartbeats 1000000 in
/-- One trip: load the chunk's rows and the weights, store the partial product into the result's buffer and, in half
precision, into the send buffer. -/
theorem step_chunk (c : Dev nD) (r : Fin 4) (a' b' : ℕ) (ha : a' = r.val) (hb : b' = r.val + 1) (n m : Fin 8) (hn : n.val = 2 * r.val) (hm : m.val = 2 * r.val + 1)
    {off : Fin 2 → ℕ} (ho : off = ![192 * (chunkIx c r).val, 0]) {inb : ∀ a, off a + S192x768.size a ≤ S768x768.size a}
    {iG : ∀ a, (![0, 0] : Fin 2 → ℕ) a + S768x1536.size a ≤ S768x1536.size a} {iD : ∀ a, (![0, 0] : Fin 2 → ℕ) a + S1536x768.size a ≤ S1536x768.size a}
    {pO : Vec F S192x768 .f32 → Vec F S768x1536 .bf16 → Vec F S768x1536 .bf16 → Vec F S1536x768 .bf16 → FVec F S192x768 .f32}
    {pS : Vec F S192x768 .f32 → Vec F S768x1536 .bf16 → Vec F S768x1536 .bf16 → Vec F S1536x768 .bf16 → FVec F S192x768 .bf16}
    (hpO : pO = k0_pay4) (hpS : pS = k0_pay5)
    {l1 : xM.view.LoadsAt (Rect.unit (s := S768x768) off S192x768.size inb).toLoadRect}
    {l2 : gbM.view.LoadsAt (Rect.unit (s := S768x1536) ![0, 0] S768x1536.size iG).toLoadRect}
    {l3 : ubM.view.LoadsAt (Rect.unit (s := S768x1536) ![0, 0] S768x1536.size iG).toLoadRect}
    {l4 : dbM.view.LoadsAt (Rect.unit (s := S1536x768) ![0, 0] S1536x768.size iD).toLoadRect}
    {l5 : oM.view.LoadsAt (Rect.unit (s := S768x768) off S192x768.size inb).toLoadRect}
    {l6 : sM.view.LoadsAt (Rect.unit (s := S768x768) off S192x768.size inb).toLoadRect}
    {x1 : (oM.access (Rect.unit (s := S768x768) off S192x768.size inb)).Stores Finset.univ} {m1}
    {x2 : (sM.access (Rect.unit (s := S768x768) off S192x768.size inb)).Stores Finset.univ} {m2}
    {α : Type} {Q : α → sProp 𝕄} {kk : PUnit → Prog (TpuEff nD τ sig (Elt F) Λ₀ .tc) α} :
    (Ch I c a')
      ⊢ iprop(((Ch I c b' ∗ rowV I c (sent c n) ∗ rowV I c (sent c m)) -∗ wpc c (kk ⟨⟩) Q)
          -∗ wpc c (.op (.load xM (Rect.unit (s := S768x768) off S192x768.size inb).toLoadRect l1) fun v =>
              .op (.load gbM (Rect.unit (s := S768x1536) ![0, 0] S768x1536.size iG).toLoadRect l2) fun vg =>
              .op (.load ubM (Rect.unit (s := S768x1536) ![0, 0] S768x1536.size iG).toLoadRect l3) fun vu =>
              .op (.load dbM (Rect.unit (s := S1536x768) ![0, 0] S1536x768.size iD).toLoadRect l4) fun vd =>
              .op (.load oM (Rect.unit (s := S768x768) off S192x768.size inb).toLoadRect l5) fun _ =>
              .op (.store oM (Rect.unit (s := S768x768) off S192x768.size inb) (pO v vg vu vd) Finset.univ x1 m1) fun _ =>
              .op (.load sM (Rect.unit (s := S768x768) off S192x768.size inb).toLoadRect l6) fun _ =>
              .op (.store sM (Rect.unit (s := S768x768) off S192x768.size inb) (pS v vg vu vd) Finset.univ x2 m2) kk) Q) := by
  subst ho hpO hpS ha hb
  obtain ⟨hs0, hs1⟩ := sent_pair c r n m hn hm
  rw [hs0, hs1]
  unfold Ch opsV outC chRest
  iintro ⟨⟨Hx, Hg, Hu, Hd⟩, ⟨%f, %hf, Ho⟩, HS⟩ Hk
  ihave H := (prog_step 4 r _ _) $$ HS
  icases H with ⟨⟨%fs, Hs⟩, HB⟩
  iapply (wp_load 𝒱₀ (c : Thread nD τ) none Set.univ (m := xM) (S := Finset.univ) (Finset.subset_univ _)) $$ Hx
  iintro Hx
  iapply (wp_load 𝒱₀ (c : Thread nD τ) none Set.univ (m := gbM) (S := Finset.univ) (Finset.subset_univ _)) $$ Hg
  iintro Hg
  iapply (wp_load 𝒱₀ (c : Thread nD τ) none Set.univ (m := ubM) (S := Finset.univ) (Finset.subset_univ _)) $$ Hu
  iintro Hu
  iapply (wp_load 𝒱₀ (c : Thread nD τ) none Set.univ (m := dbM) (S := Finset.univ) (Finset.subset_univ _)) $$ Hd
  iintro Hd
  iapply (wp_load 𝒱₀ (c : Thread nD τ) none Set.univ (m := oM) (S := Finset.univ) (Finset.subset_univ _)) $$ Ho
  iintro Ho
  iapply (wp_store 𝒱₀ (c : Thread nD τ) none Set.univ (m := oM) (r := chunkR (chunkIx c r)) (S := Finset.univ) (Finset.subset_univ _)) $$ Ho
  iintro Ho
  unfold chPts
  iapply (wp_load 𝒱₀ (c : Thread nD τ) none Set.univ (m := sM) (S := (chM (chunkIx c r)).view.set) (by
      show _ ⊆ (sM.view.slice (chunkR (chunkIx c r))).set
      rw [View.set_slice]; exact Finset.Subset.refl _)) $$ Hs
  iintro Hs
  iapply (wp_store 𝒱₀ (c : Thread nD τ) none Set.univ (m := sM) (r := chunkR (chunkIx c r)) (S := (chM (chunkIx c r)).view.set)
    (Finset.Subset.refl _)) $$ Hs
  iintro Hs
  have hg : gbM.view.readAt (Elt F) (Rect.unit (s := S768x1536) ![0, 0] S768x1536.size iG).toLoadRect (gB I c) = gB I c :=
    Memref.readAt_unit_zero (Elt F) cc0_scratch4 origin _ _
  have hu : ubM.view.readAt (Elt F) (Rect.unit (s := S768x1536) ![0, 0] S768x1536.size iG).toLoadRect (uB I c) = uB I c :=
    Memref.readAt_unit_zero (Elt F) cc0_scratch5 origin _ _
  have hd : dbM.view.readAt (Elt F) (Rect.unit (s := S1536x768) ![0, 0] S1536x768.size iD).toLoadRect (dB I c) = dB I c :=
    Memref.readAt_unit_zero (Elt F) cc0_scratch6 origin _ _
  rw [hg, hu, hd, xChunk_load I c (chunkIx c r)]
  iapply Hk
  isplitl [Hx Hg Hu Hd Ho HB]
  · isplitl [Hx Hg Hu Hd]
    · isplitl [Hx]; · iexact Hx
      isplitl [Hg]; · iexact Hg
      isplitl [Hu]; · iexact Hu
      iexact Hd
    isplitl [Ho]
    · iexists _; isplitr; rotate_left; · iexact Ho
      ipureintro
      intro j hj
      by_cases e : j = r
      · subst e; exact readAt_write_same oM.view (chunkR (chunkIx c j)) f _
      · have := hf j (by have : j.val ≠ r.val := fun h => e (Fin.ext h); omega)
        exact (readAt_write_other oM.view (chunkR (chunkIx c r)) (chunkR (chunkIx c j)) (chunks_disjoint (chunkIx_ne c j r e)) f _).trans this
    iapply HB; iempintro
  have hsp := ch_split c (chunkIx c r) ((sM.access (chunkR (chunkIx c r))).write (Elt F) fs
    (k0_pay5 (xChunk I c (chunkIx c r)) (gB I c) (uB I c) (dB I c)) Finset.univ)
  unfold chPts at hsp
  ihave Hs := hsp $$ Hs
  icases Hs with ⟨H0, H1⟩
  unfold rowV
  isplitl [H0]
  · iexists _; isplitr; rotate_left; · iexact H0
    ipureintro
    have h := row_of_chunk I c (blockOf (chunkIx c r) 0) fs
    rw [chunkOf_blockOf] at h
    exact h
  · iexists _; isplitr; rotate_left; · iexact H1
    ipureintro
    have h := row_of_chunk I c (blockOf (chunkIx c r) 1) fs
    rw [chunkOf_blockOf] at h
    exact h

/-! ## Row blocks of the result -/

/-- Loading the device's own row block after all chunks gives its own partial product's block. -/
theorem step_own (c : Dev nD) {off : Fin 2 → ℕ} (ho : off = ![96 * c.val, 0]) {inb : ∀ a, off a + S96x768.size a ≤ S768x768.size a}
    {l : oM.view.LoadsAt (Rect.unit (s := S768x768) off S96x768.size inb).toLoadRect}
    {α : Type} {Q : α → sProp 𝕄} {kk : Vec F S96x768 .f32 → Prog (TpuEff nD τ sig (Elt F) Λ₀ .tc) α} :
    (outC I c 4)
      ⊢ iprop((outC I c 4 -∗ wpc c (kk (pval I c c)) Q)
          -∗ wpc c (.op (.load oM (Rect.unit (s := S768x768) off S96x768.size inb).toLoadRect l) kk) Q) := by
  subst ho
  unfold outC
  iintro ⟨%f, %hf, Ho⟩ Hk
  have hv : oM.view.readAt (Elt F) (rowR c).toLoadRect f = pval I c c := by
    rw [readAt_row oM.view c f]
    obtain ⟨r, hr⟩ : ∃ r : Fin 4, chunkIx c r = chunkOf c := chunkIx_surj c c
    unfold pval
    rw [← hr, hf r r.isLt]
  iapply (wp_load 𝒱₀ (c : Thread nD τ) none Set.univ (m := oM) (S := Finset.univ) (Finset.subset_univ _)) $$ Ho
  iintro Ho
  rw [hv]
  iapply Hk
  iexists f; isplitr; · ipureintro; exact hf
  iexact Ho

/-- The result's buffer with the device's own row block and its first `k` peers' blocks final. -/
def outG (c : Dev nD) (k : ℕ) : sProp 𝕄 :=
  iprop(∃ f : Vec F S768x768 .f32, ⌜oM.view.readAt (Elt F) (rowR c).toLoadRect f = blockV I c c
      ∧ ∀ j : Fin 7, j.val < k → oM.view.readAt (Elt F) (rowR (peer c j)).toLoadRect f = blockV I c (peer c j)⌝
    ∗ (oM.view.loc (c : Thread nD τ) ↦{fullShare} f))

/-- Storing the device's own row block. -/
theorem step_out_own (c : Dev nD) {off : Fin 2 → ℕ} (ho : off = ![96 * c.val, 0]) {inb : ∀ a, off a + S96x768.size a ≤ S768x768.size a}
    {l : oM.view.LoadsAt (Rect.unit (s := S768x768) off S96x768.size inb).toLoadRect}
    {x : (oM.access (Rect.unit (s := S768x768) off S96x768.size inb)).Stores Finset.univ} {m} {w : Vec F S96x768 .f32} (hw : w = acc I c)
    {α : Type} {Q : α → sProp 𝕄} {kk : PUnit → Prog (TpuEff nD τ sig (Elt F) Λ₀ .tc) α} :
    (outC I c 4)
      ⊢ iprop((outG I c 0 -∗ wpc c (kk ⟨⟩) Q)
          -∗ wpc c (.op (.load oM (Rect.unit (s := S768x768) off S96x768.size inb).toLoadRect l) fun _ =>
              .op (.store oM (Rect.unit (s := S768x768) off S96x768.size inb) w Finset.univ x m) kk) Q) := by
  subst ho hw
  unfold outC outG
  iintro ⟨%f, %hf, Ho⟩ Hk
  iapply (wp_load 𝒱₀ (c : Thread nD τ) none Set.univ (m := oM) (S := Finset.univ) (Finset.subset_univ _)) $$ Ho
  iintro Ho
  iapply (wp_store 𝒱₀ (c : Thread nD τ) none Set.univ (m := oM) (r := rowR c) (S := Finset.univ) (Finset.subset_univ _)) $$ Ho
  iintro Ho
  iapply Hk
  iexists _; isplitr; rotate_left; · iexact Ho
  ipureintro
  refine ⟨?_, fun j hj => absurd hj (Nat.not_lt_zero _)⟩
  unfold blockV; rw [if_pos rfl]
  exact readAt_write_same oM.view (rowR c) f _

/-- Storing a peer's row block. -/
theorem step_out (c : Dev nD) (k : Fin 7) (a' b' : ℕ) (ha : a' = k.val) (hb : b' = k.val + 1) {off : Fin 2 → ℕ} (ho : off = ![96 * (peer c k).val, 0])
    {inb : ∀ a, off a + S96x768.size a ≤ S768x768.size a}
    {l : oM.view.LoadsAt (Rect.unit (s := S768x768) off S96x768.size inb).toLoadRect}
    {x : (oM.access (Rect.unit (s := S768x768) off S96x768.size inb)).Stores Finset.univ} {m} {w : Vec F S96x768 .f32}
    (hw : w = extf .f32 (accB I (peer c k)) bitsLt_bf16_f32)
    {α : Type} {Q : α → sProp 𝕄} {kk : PUnit → Prog (TpuEff nD τ sig (Elt F) Λ₀ .tc) α} :
    (outG I c a')
      ⊢ iprop((outG I c b' -∗ wpc c (kk ⟨⟩) Q)
          -∗ wpc c (.op (.load oM (Rect.unit (s := S768x768) off S96x768.size inb).toLoadRect l) fun _ =>
              .op (.store oM (Rect.unit (s := S768x768) off S96x768.size inb) w Finset.univ x m) kk) Q) := by
  subst ho hw ha hb
  unfold outG
  iintro ⟨%f, %hf, Ho⟩ Hk
  iapply (wp_load 𝒱₀ (c : Thread nD τ) none Set.univ (m := oM) (S := Finset.univ) (Finset.subset_univ _)) $$ Ho
  iintro Ho
  iapply (wp_store 𝒱₀ (c : Thread nD τ) none Set.univ (m := oM) (r := rowR (peer c k)) (S := Finset.univ) (Finset.subset_univ _)) $$ Ho
  iintro Ho
  iapply Hk
  iexists _; isplitr; rotate_left; · iexact Ho
  ipureintro
  refine ⟨(readAt_write_other oM.view (rowR (peer c k)) (rowR c) (rows_disjoint (peer_ne c k)) f _).trans hf.1, fun j hj => ?_⟩
  by_cases e : j = k
  · subst e
    refine (readAt_write_same oM.view (rowR (peer c j)) f _).trans ?_
    unfold blockV; rw [if_neg (peer_ne c j)]
  · exact (readAt_write_other oM.view (rowR (peer c k)) (rowR (peer c j)) (rows_disjoint fun h => e (peer_inj c h).symm) f _).trans
      (hf.2 j (by have : j.val ≠ k.val := fun h => e (Fin.ext h); omega))

/-- All row blocks final: the buffer holds the result. -/
theorem outG_end (c : Dev nD) : (outG I c 7 : sProp 𝕄) ⊢ (oM.view.loc (c : Thread nD τ) ↦{fullShare} outV I c) := by
  unfold outG
  iintro ⟨%f, %hf, Ho⟩
  have h : f = outV I c := eq_outV I c f fun b => by
    rcases peers_univ c b with rfl | ⟨k, rfl⟩
    · exact hf.1
    · exact hf.2 k k.isLt
  subst h
  iexact Ho

/-! ## Landed blocks -/

/-- Loading a landed block of the first exchange: the peer's partial product's block. -/
theorem step_rs_load (c : Dev nD) (k : ℕ) (j : Fin 7) (hj : j.val < k) {off : Fin 3 → ℕ} (ho : off = ![(peer c j).val, 0, 0])
    {inb : ∀ a, off a + S1x96x768.size a ≤ S8x96x768.size a}
    {l : rM.view.LoadsAt (Rect.unit (s := S8x96x768) off S1x96x768.size inb).toLoadRect}
    {α : Type} {Q : α → sProp 𝕄} {kk : Vec F S1x96x768 .bf16 → Prog (TpuEff nD τ sig (Elt F) Λ₀ .tc) α} :
    (Wt I 1 c k)
      ⊢ iprop((∀ v, ⌜shapeCast S96x768 v shapeCasts_S1x96x768_S96x768 = pvalB I (peer c j) c⌝ -∗ Wt I 1 c k -∗ wpc c (kk v) Q)
          -∗ wpc c (.op (.load rM (Rect.unit (s := S8x96x768) off S1x96x768.size inb).toLoadRect l) kk) Q) := by
  subst ho
  unfold Wt
  iintro HW Hk
  ihave H := (prog_look 7 k j hj _ _) $$ HW
  icases H with ⟨HP, HB⟩
  unfold waitPost xferPay
  icases HP with ⟨Hat, ⟨%f, %hf, Hs⟩⟩
  unfold rsPts
  iapply (wp_load 𝒱₀ (c : Thread nD τ) none Set.univ (m := rM) (S := (rsM (peer c j)).view.set) (by
      rw [rsM_set])) $$ Hs
  iintro Hs
  iapply Hk
  · ipureintro; rw [rs_load]; exact hf
  iapply HB
  isplitl [Hat]; · iexact Hat
  iexists f; isplitr; · ipureintro; exact hf
  iexact Hs

/-- Loading a landed block of the second exchange: the peer's reduced block. -/
theorem step_ag_load (c : Dev nD) (k : ℕ) (j : Fin 7) (hj : j.val < k) {off : Fin 3 → ℕ} (ho : off = ![(peer c j).val, 0, 0])
    {inb : ∀ a, off a + S1x96x768.size a ≤ S8x96x768.size a}
    {l : bM.view.LoadsAt (Rect.unit (s := S8x96x768) off S1x96x768.size inb).toLoadRect}
    {α : Type} {Q : α → sProp 𝕄} {kk : Vec F S1x96x768 .bf16 → Prog (TpuEff nD τ sig (Elt F) Λ₀ .tc) α} :
    (Wt I 3 c k)
      ⊢ iprop((∀ v, ⌜shapeCast S96x768 v shapeCasts_S1x96x768_S96x768 = accB I (peer c j)⌝ -∗ Wt I 3 c k -∗ wpc c (kk v) Q)
          -∗ wpc c (.op (.load bM (Rect.unit (s := S8x96x768) off S1x96x768.size inb).toLoadRect l) kk) Q) := by
  subst ho
  unfold Wt
  iintro HW Hk
  ihave H := (prog_look 7 k j hj _ _) $$ HW
  icases H with ⟨HP, HB⟩
  unfold waitPost xferPay
  icases HP with ⟨Hat, ⟨%f, %hf, Hs⟩⟩
  unfold agPts
  iapply (wp_load 𝒱₀ (c : Thread nD τ) none Set.univ (m := bM) (S := (agM (peer c j)).view.set) (by
      rw [agM_set])) $$ Hs
  iintro Hs
  iapply Hk
  · ipureintro; rw [ag_load]; exact hf
  iapply HB
  isplitl [Hat]; · iexact Hat
  iexists f; isplitr; · ipureintro; exact hf
  iexact Hs

end Cert.Mlp

end
-- ==== Proof.PartsA.lean ====
/-
# The body's first half

Each part of the body from what it needs of the device's resources to what it leaves: the barrier, the weights' casts, the
four chunks with the first exchange's transfers.
-/
module

public import proofs.«01_k».proof.Proof.Blocks

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Fin 4 × Dev nD) → ℕ)

/-- The weights as they arrive, and the buffers for their casts. -/
def rawW (c : Dev nD) : sProp 𝕄 :=
  iprop((gM.view.loc (c : Thread nD τ) ↦{fullShare} I.g c) ∗ (uM.view.loc (c : Thread nD τ) ↦{fullShare} I.u c)
    ∗ (dM.view.loc (c : Thread nD τ) ↦{fullShare} I.d c))
def scrW (c : Dev nD) : sProp 𝕄 :=
  iprop((∃ f : Vec F S768x1536 .bf16, gbM.view.loc (c : Thread nD τ) ↦{fullShare} f)
    ∗ (∃ f : Vec F S768x1536 .bf16, ubM.view.loc (c : Thread nD τ) ↦{fullShare} f)
    ∗ (∃ f : Vec F S1536x768 .bf16, dbM.view.loc (c : Thread nD τ) ↦{fullShare} f))

/-- Four barrier signals. -/
theorem part1 (c : Dev nD)  {Kt : _ → sProp 𝕄} :
    iprop(ctx I K ∗ Sig c 0 ∗ Ow c 0)
      ⊢ iprop((∀ w2, ∀ w4, ∀ w6, ∀ w8, ∀ w10, ∀ w12, ∀ w14, ∀ w16, (Sig c 4 ∗ Ow c 4) -∗ Kt ⟨c, w2, w4, w6, w8, w10, w12, w14, w16, SemArray.scalar (sig.barrier 0 rfl)⟩)
        -∗ wpc c (k0_part1 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10) Kt) := by
  rw [k0_part1_eq_skeleton]; unfold k0_part1_skel
  simp only [semSignalWord, semWaitWord, Prog.lift, Prog.bind_op, Prog.bind_ret, Prog.pure_eq_ret, wp_deviceId]
  iintro ⟨#Hctx, HS, HO⟩ Hk
  iapply (step_signal I K c _ 0 0 1 rfl rfl (dev1_eq c) rfl) $$ [HS HO]
  · isplitr; · iexact Hctx
    isplitl [HS]; · iexact HS
    iexact HO
  iintro ⟨HS, HO⟩
  iapply (step_signal I K c _ 1 1 2 rfl rfl (dev2_eq c) rfl) $$ [HS HO]
  · isplitr; · iexact Hctx
    isplitl [HS]; · iexact HS
    iexact HO
  iintro ⟨HS, HO⟩
  iapply (step_signal I K c _ 2 2 3 rfl rfl (dev3_eq c) rfl) $$ [HS HO]
  · isplitr; · iexact Hctx
    isplitl [HS]; · iexact HS
    iexact HO
  iintro ⟨HS, HO⟩
  iapply (step_signal I K c _ 3 3 4 rfl rfl (dev4_eq c) rfl) $$ [HS HO]
  · isplitr; · iexact Hctx
    isplitl [HS]; · iexact HS
    iexact HO
  iintro ⟨HS, HO⟩
  iapply (wpc_ret (F := F))
  iapply Hk
  isplitl [HS] <;> iassumption

set_option maxHeartbeats 1000000 in
/-- The last three signals, the barrier's wait, and the weights' casts. -/
theorem part2 (c : Dev nD) (w0 w1 w2 w3 : BitVec 32) {Kt : _ → sProp 𝕄} :
    iprop(ctx I K ∗ Sig c 4 ∗ Ow c 4 ∗ (cred (tallyAt (barCell c) () 7) ∗ atPos ER (barCell c) 0 ∅ 0) ∗ (xM.view.loc (c : Thread nD τ) ↦{fullShare} I.x c) ∗ rawW I c ∗ scrW (F := F) c)
      ⊢ iprop((∀ x, (Ow c 7 ∗ atPos ER (barCell c) 1 ∅ 0 ∗ (bigSep (Finset.univ.erase c) fun d => barPay c d) ∗ rawW I c ∗ opsV I c) -∗ Kt x)
        -∗ wpc c (k0_part2 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3 (SemArray.scalar (sig.barrier 0 rfl))) Kt) := by
  rw [k0_part2_eq_skeleton]; unfold k0_part2_skel
  simp only [semSignalWord, semWaitWord, Prog.lift, Prog.bind_op, Prog.bind_ret, Prog.pure_eq_ret, wp_deviceId]
  iintro ⟨#Hctx, HS, HO, ⟨Hc, Hat⟩, Hx, HW, HB⟩ Hk
  iapply (step_signal I K c _ 4 4 5 rfl rfl (dev5_eq c) rfl) $$ [HS HO]
  · isplitr; · iexact Hctx
    isplitl [HS]; · iexact HS
    iexact HO
  iintro ⟨HS, HO⟩
  iapply (step_signal I K c _ 5 5 6 rfl rfl (dev6_eq c) rfl) $$ [HS HO]
  · isplitr; · iexact Hctx
    isplitl [HS]; · iexact HS
    iexact HO
  iintro ⟨HS, HO⟩
  iapply (step_signal I K c _ 6 6 7 rfl rfl (dev7_eq c) rfl) $$ [HS HO]
  · isplitr; · iexact Hctx
    isplitl [HS]; · iexact HS
    iexact HO
  iintro ⟨HS, HO⟩
  iapply (step_bar I K c rfl) $$ [HO Hc Hat]
  · isplitr; · iexact Hctx
    isplitl [HO]; · iexact HO
    isplitl [Hc] <;> iassumption
  iintro ⟨HO, Hat, Hp⟩
  unfold rawW scrW opsV
  icases HW with ⟨Hg, Hu, Hd⟩
  icases HB with ⟨⟨%fg, Hgb⟩, ⟨%fu, Hub⟩, ⟨%fd, Hdb⟩⟩
  have rg : gM.view.readAt (Elt F) (Rect.unit (s := S768x1536) ![0, 0] S768x1536.size inb_S768x1536_S768x1536_0_0).toLoadRect (I.g c) = I.g c :=
    Memref.readAt_unit_zero (Elt F) cc0_stg1_0 origin _ _
  have qg : View.write (Elt F) (gbM.access (Rect.unit (s := S768x1536) ![0, 0] S768x1536.size inb_S768x1536_S768x1536_0_0)) fg (k0_pay1 (I.g c)) Finset.univ = k0_pay1 (I.g c) :=
    Memref.write_access_unit_zero_univ (Elt F) cc0_scratch4 origin inb_S768x1536_S768x1536_0_0 fg (k0_pay1 (I.g c))
  have ru : uM.view.readAt (Elt F) (Rect.unit (s := S768x1536) ![0, 0] S768x1536.size inb_S768x1536_S768x1536_0_0).toLoadRect (I.u c) = I.u c :=
    Memref.readAt_unit_zero (Elt F) cc0_stg2_0 origin _ _
  have qu : View.write (Elt F) (ubM.access (Rect.unit (s := S768x1536) ![0, 0] S768x1536.size inb_S768x1536_S768x1536_0_0)) fu (k0_pay2 (I.u c)) Finset.univ = k0_pay2 (I.u c) :=
    Memref.write_access_unit_zero_univ (Elt F) cc0_scratch5 origin inb_S768x1536_S768x1536_0_0 fu (k0_pay2 (I.u c))
  have rd : dM.view.readAt (Elt F) (Rect.unit (s := S1536x768) ![0, 0] S1536x768.size inb_S1536x768_S1536x768_0_0).toLoadRect (I.d c) = I.d c :=
    Memref.readAt_unit_zero (Elt F) cc0_stg3_0 origin _ _
  have qd : View.write (Elt F) (dbM.access (Rect.unit (s := S1536x768) ![0, 0] S1536x768.size inb_S1536x768_S1536x768_0_0)) fd (k0_pay3 (I.d c)) Finset.univ = k0_pay3 (I.d c) :=
    Memref.write_access_unit_zero_univ (Elt F) cc0_scratch6 origin inb_S1536x768_S1536x768_0_0 fd (k0_pay3 (I.d c))
  iapply (wp_load 𝒱₀ (c : Thread nD τ) none Set.univ (m := gM) (S := Finset.univ) (Finset.subset_univ _)) $$ Hg
  iintro Hg
  iapply (wp_load 𝒱₀ (c : Thread nD τ) none Set.univ (m := gbM) (S := Finset.univ) (Finset.subset_univ _)) $$ Hgb
  iintro Hgb
  iapply (wp_store 𝒱₀ (c : Thread nD τ) none Set.univ (m := gbM) (r := Rect.unit (s := S768x1536) ![0, 0] S768x1536.size inb_S768x1536_S768x1536_0_0) (S := Finset.univ) (Finset.subset_univ _)) $$ Hgb
  iintro Hgb
  iapply (wp_load 𝒱₀ (c : Thread nD τ) none Set.univ (m := uM) (S := Finset.univ) (Finset.subset_univ _)) $$ Hu
  iintro Hu
  iapply (wp_load 𝒱₀ (c : Thread nD τ) none Set.univ (m := ubM) (S := Finset.univ) (Finset.subset_univ _)) $$ Hub
  iintro Hub
  iapply (wp_store 𝒱₀ (c : Thread nD τ) none Set.univ (m := ubM) (r := Rect.unit (s := S768x1536) ![0, 0] S768x1536.size inb_S768x1536_S768x1536_0_0) (S := Finset.univ) (Finset.subset_univ _)) $$ Hub
  iintro Hub
  iapply (wp_load 𝒱₀ (c : Thread nD τ) none Set.univ (m := dM) (S := Finset.univ) (Finset.subset_univ _)) $$ Hd
  iintro Hd
  iapply (wp_load 𝒱₀ (c : Thread nD τ) none Set.univ (m := dbM) (S := Finset.univ) (Finset.subset_univ _)) $$ Hdb
  iintro Hdb
  iapply (wp_store 𝒱₀ (c : Thread nD τ) none Set.univ (m := dbM) (r := Rect.unit (s := S1536x768) ![0, 0] S1536x768.size inb_S1536x768_S1536x768_0_0) (S := Finset.univ) (Finset.subset_univ _)) $$ Hdb
  iintro Hdb
  rw [rg, ru, rd, qg, qu, qd]
  iapply (wpc_ret (F := F))
  iapply Hk
  isplitl [HO]; · iexact HO
  isplitl [Hat]; · iexact Hat
  isplitl [Hp]; · iexact Hp
  isplitl [Hg Hu Hd]
  · isplitl [Hg]; · iexact Hg
    isplitl [Hu] <;> iassumption
  isplitl [Hx]; · iexact Hx
  isplitl [Hgb]; · iexact Hgb
  isplitl [Hub]; · iexact Hub
  iexact Hdb

/-- Chunk 0 and its two transfers. -/
theorem part3 (c : Dev nD) (w0 w1 w2 w3 : BitVec 32) {Kt : _ → sProp 𝕄} :
    iprop(ctx I K ∗ Ch I c 0 ∗ Rs c 0)
      ⊢ iprop((∀ x, (Ch I c 1 ∗ Rs c 2) -∗ Kt x)
        -∗ wpc c (k0_part3 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3) Kt) := by
  rw [k0_part3_eq_skeleton]; unfold k0_part3_skel
  simp only [semSignalWord, semWaitWord, Prog.lift, Prog.bind_op, Prog.bind_ret, Prog.pure_eq_ret, wp_deviceId]
  iintro ⟨#Hctx, HC, HR⟩ Hk
  iapply (step_chunk I c 0 0 1 rfl rfl 0 1 rfl rfl (off := k0_off1 c 1#32) (off1_eq c 0) rfl rfl) $$ HC
  iintro ⟨HC, H0, H1⟩
  iapply (@step_cond F _ I K c 0 0 1 rfl rfl (k0_cond1 c = 1#1) inferInstance (cond1_iff c) (fun h => ⟨k0_dev8 c, k0_dev8_lt c h⟩) (dev8_eq c)
    (k0_off5 c) (off5_eq c) (k0_off4 c) (off4_eq c) (k0_off5_inb c) (k0_off4_inb c) _ _
    (fun h => sem0_of _ (off2_eq c) (k0_off2_inb c h)) (fun h => sem1_of _ (off3_eq c) (k0_off3_inb c h)) _ _ _ _ _ _ _) $$ [HR H0]
  · isplitr; · iexact Hctx
    isplitl [HR]; · iexact HR
    iexact H0
  iintro HR
  iapply (@step_cond F _ I K c 1 1 2 rfl rfl (k0_cond2 c = 1#1) inferInstance (cond2_iff c) (fun h => ⟨k0_dev9 c, k0_dev9_lt c h⟩) (dev9_eq c)
    (k0_off9 c) (off9_eq c) (k0_off8 c) (off8_eq c) (k0_off9_inb c) (k0_off8_inb c) _ _
    (fun h => sem0_of _ (off6_eq c) (k0_off6_inb c h)) (fun h => sem1_of _ (off7_eq c) (k0_off7_inb c h)) _ _ _ _ _ _ _) $$ [HR H1]
  · isplitr; · iexact Hctx
    isplitl [HR]; · iexact HR
    iexact H1
  iintro HR
  iapply (wpc_ret (F := F))
  iapply Hk
  isplitl [HC]; · iexact HC
  iexact HR

/-- Chunk 1 and its two transfers. -/
theorem part4 (c : Dev nD) (w0 w1 w2 w3 : BitVec 32) {Kt : _ → sProp 𝕄} :
    iprop(ctx I K ∗ Ch I c 1 ∗ Rs c 2)
      ⊢ iprop((∀ x, (Ch I c 2 ∗ Rs c 4) -∗ Kt x)
        -∗ wpc c (k0_part4 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3) Kt) := by
  rw [k0_part4_eq_skeleton]; unfold k0_part4_skel
  simp only [semSignalWord, semWaitWord, Prog.lift, Prog.bind_op, Prog.bind_ret, Prog.pure_eq_ret, wp_deviceId]
  iintro ⟨#Hctx, HC, HR⟩ Hk
  iapply (step_chunk I c 1 1 2 rfl rfl 2 3 rfl rfl (off := k0_off1 c 2#32) (off1_eq c 1) rfl rfl) $$ HC
  iintro ⟨HC, H0, H1⟩
  iapply (@step_cond F _ I K c 2 2 3 rfl rfl (k0_cond3 c = 1#1) inferInstance (cond3_iff c) (fun h => ⟨k0_dev10 c, k0_dev10_lt c h⟩) (dev10_eq c)
    (k0_off13 c) (off13_eq c) (k0_off12 c) (off12_eq c) (k0_off13_inb c) (k0_off12_inb c) _ _
    (fun h => sem0_of _ (off10_eq c) (k0_off10_inb c h)) (fun h => sem1_of _ (off11_eq c) (k0_off11_inb c h)) _ _ _ _ _ _ _) $$ [HR H0]
  · isplitr; · iexact Hctx
    isplitl [HR]; · iexact HR
    iexact H0
  iintro HR
  iapply (@step_cond F _ I K c 3 3 4 rfl rfl (k0_cond4 c = 1#1) inferInstance (cond4_iff c) (fun h => ⟨k0_dev11 c, k0_dev11_lt c h⟩) (dev11_eq c)
    (k0_off17 c) (off17_eq c) (k0_off16 c) (off16_eq c) (k0_off17_inb c) (k0_off16_inb c) _ _
    (fun h => sem0_of _ (off14_eq c) (k0_off14_inb c h)) (fun h => sem1_of _ (off15_eq c) (k0_off15_inb c h)) _ _ _ _ _ _ _) $$ [HR H1]
  · isplitr; · iexact Hctx
    isplitl [HR]; · iexact HR
    iexact H1
  iintro HR
  iapply (wpc_ret (F := F))
  iapply Hk
  isplitl [HC]; · iexact HC
  iexact HR

/-- Chunk 2 and its two transfers. -/
theorem part5 (c : Dev nD) (w0 w1 w2 w3 : BitVec 32) {Kt : _ → sProp 𝕄} :
    iprop(ctx I K ∗ Ch I c 2 ∗ Rs c 4)
      ⊢ iprop((∀ x, (Ch I c 3 ∗ Rs c 6) -∗ Kt x)
        -∗ wpc c (k0_part5 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3) Kt) := by
  rw [k0_part5_eq_skeleton]; unfold k0_part5_skel
  simp only [semSignalWord, semWaitWord, Prog.lift, Prog.bind_op, Prog.bind_ret, Prog.pure_eq_ret, wp_deviceId]
  iintro ⟨#Hctx, HC, HR⟩ Hk
  iapply (step_chunk I c 2 2 3 rfl rfl 4 5 rfl rfl (off := k0_off1 c 3#32) (off1_eq c 2) rfl rfl) $$ HC
  iintro ⟨HC, H0, H1⟩
  iapply (@step_cond F _ I K c 4 4 5 rfl rfl (k0_cond5 c = 1#1) inferInstance (cond5_iff c) (fun h => ⟨k0_dev12 c, k0_dev12_lt c h⟩) (dev12_eq c)
    (k0_off21 c) (off21_eq c) (k0_off20 c) (off20_eq c) (k0_off21_inb c) (k0_off20_inb c) _ _
    (fun h => sem0_of _ (off18_eq c) (k0_off18_inb c h)) (fun h => sem1_of _ (off19_eq c) (k0_off19_inb c h)) _ _ _ _ _ _ _) $$ [HR H0]
  · isplitr; · iexact Hctx
    isplitl [HR]; · iexact HR
    iexact H0
  iintro HR
  iapply (@step_cond F _ I K c 5 5 6 rfl rfl (k0_cond6 c = 1#1) inferInstance (cond6_iff c) (fun h => ⟨k0_dev13 c, k0_dev13_lt c h⟩) (dev13_eq c)
    (k0_off25 c) (off25_eq c) (k0_off24 c) (off24_eq c) (k0_off25_inb c) (k0_off24_inb c) _ _
    (fun h => sem0_of _ (off22_eq c) (k0_off22_inb c h)) (fun h => sem1_of _ (off23_eq c) (k0_off23_inb c h)) _ _ _ _ _ _ _) $$ [HR H1]
  · isplitr; · iexact Hctx
    isplitl [HR]; · iexact HR
    iexact H1
  iintro HR
  iapply (wpc_ret (F := F))
  iapply Hk
  isplitl [HC]; · iexact HC
  iexact HR

/-- Chunk 3 and its two transfers, and the device's own row block. -/
theorem part6 (c : Dev nD) (w0 w1 w2 w3 : BitVec 32) {Kt : _ → sProp 𝕄} :
    iprop(ctx I K ∗ Ch I c 3 ∗ Rs c 6)
      ⊢ iprop((∀ x, ∀ y, (Ch I c 4 ∗ Rs c 8) -∗ Kt ⟨accTo I c 0, x, y⟩)
        -∗ wpc c (k0_part6 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3) Kt) := by
  rw [k0_part6_eq_skeleton]; unfold k0_part6_skel
  simp only [semSignalWord, semWaitWord, Prog.lift, Prog.bind_op, Prog.bind_ret, Prog.pure_eq_ret, wp_deviceId]
  iintro ⟨#Hctx, HC, HR⟩ Hk
  iapply (step_chunk I c 3 3 4 rfl rfl 6 7 rfl rfl (off := k0_off1 c 4#32) (off1_eq c 3) rfl rfl) $$ HC
  iintro ⟨HC, H0, H1⟩
  iapply (@step_cond F _ I K c 6 6 7 rfl rfl (k0_cond7 c = 1#1) inferInstance (cond7_iff c) (fun h => ⟨k0_dev14 c, k0_dev14_lt c h⟩) (dev14_eq c)
    (k0_off29 c) (off29_eq c) (k0_off28 c) (off28_eq c) (k0_off29_inb c) (k0_off28_inb c) _ _
    (fun h => sem0_of _ (off26_eq c) (k0_off26_inb c h)) (fun h => sem1_of _ (off27_eq c) (k0_off27_inb c h)) _ _ _ _ _ _ _) $$ [HR H0]
  · isplitr; · iexact Hctx
    isplitl [HR]; · iexact HR
    iexact H0
  iintro HR
  iapply (@step_cond F _ I K c 7 7 8 rfl rfl (k0_cond8 c = 1#1) inferInstance (cond8_iff c) (fun h => ⟨k0_dev15 c, k0_dev15_lt c h⟩) (dev15_eq c)
    (k0_off33 c) (off33_eq c) (k0_off32 c) (off32_eq c) (k0_off33_inb c) (k0_off32_inb c) _ _
    (fun h => sem0_of _ (off30_eq c) (k0_off30_inb c h)) (fun h => sem1_of _ (off31_eq c) (k0_off31_inb c h)) _ _ _ _ _ _ _) $$ [HR H1]
  · isplitr; · iexact Hctx
    isplitl [HR]; · iexact HR
    iexact H1
  iintro HR
  unfold Ch
  icases HC with ⟨HV, HO, HC⟩
  iapply (step_own I c (off34_eq c)) $$ HO
  iintro HO
  rw [show k0_pay12 (pval I c c) = accTo I c 0 from rfl]
  iapply (wpc_ret (F := F))
  iapply Hk
  isplitl [HV HO HC]
  · isplitl [HV]; · iexact HV
    isplitl [HO] <;> iassumption
  iexact HR

end Cert.Mlp

end
-- ==== Proof.PartsB.lean ====
/-
# The body's second half

The sums over what the first exchange brings, the second exchange, the result's row blocks, and the waits for the
device's own transfers.
-/
module

public import proofs.«01_k».proof.Proof.Blocks

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Fin 4 × Dev nD) → ℕ)

/-- What the second exchange needs of device `c`, and what it leaves of the reduced block's buffer. -/
def agRes (c : Dev nD) : sProp 𝕄 := bigSep Finset.univ fun k : Fin 7 => agPre (F := F) c (peer c k)
def aRest (c : Dev nD) : sProp 𝕄 := iprop(aPts c (Transfers.shareDrop fullShare 8) (accB I c) ∗ aPts c (shareOf c) (accB I c))

/-- The reduced block shared out to the transfers. -/
theorem a_split (c : Dev nD) :
    iprop((aM.view.loc (c : Thread nD τ) ↦{fullShare} accB I c) ∗ agRes c ∗ Ow c 15) ⊢ (iprop(Ag I c 0 ∗ aRest I c) : sProp 𝕄) := by
  unfold Ag agRes aRest
  rw [prog_start]
  iintro ⟨Ha, HR, HO⟩
  have hs : aM.view.set = Finset.univ := View.set_whole _
  ihave H := (Transfers.pointsTo_toks_split fullShare 8) $$ Ha
  icases H with ⟨Hd, Ht⟩
  ihave Ht := (Entails.of_eq (bigSep_devs c (fun p : Dev nD => iprop(aM.view.loc (c : Thread nD τ) ↦[Finset.univ]{shareOf p} accB I c)))) $$ Ht
  icases Ht with ⟨Hc, Ht⟩
  unfold aPts
  rw [hs]
  isplitl [HR Ht HO]
  · isplitl [HR Ht]
    · rw [bigSep_sep']
      isplitl [HR]; · iexact HR
      iexact Ht
    iexact HO
  isplitl [Hd]; · iexact Hd
  iexact Hc

/-- The second exchange's transfers all started. -/
theorem Ag_end (c : Dev nD) : (Ag I c 7 : sProp 𝕄) ⊢ iprop((bigSep Finset.univ fun k : Fin 7 => agPost c (peer c k)) ∗ Ow c 22) := by
  unfold Ag
  rw [prog_end]

/-- The first two received blocks added, the third loaded. -/
theorem part7 (c : Dev nD) (w0 w1 w2 w3 w4 : BitVec 32) {Kt : _ → sProp 𝕄} :
    iprop(ctx I K ∗ Ow c 15 ∗ Wt I 1 c 0)
      ⊢ iprop((∀ v, ⌜shapeCast S96x768 v shapeCasts_S1x96x768_S96x768 = pvalB I (peer c 2) c⌝ -∗ (Ow c 15 ∗ Wt I 1 c 3) -∗ Kt ⟨accTo I c 2, v⟩)
        -∗ wpc c (k0_part7 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 (accTo I c 0) w3 w4) Kt) := by
  rw [k0_part7_eq_skeleton]; unfold k0_part7_skel
  simp only [semSignalWord, semWaitWord, Prog.lift, Prog.bind_op, Prog.bind_ret, Prog.pure_eq_ret, wp_deviceId]
  iintro ⟨#Hctx, HO, HW⟩ Hk
  iapply (step_wait I K 1 c 0 0 1 rfl rfl 15 (Or.inl (by decide)) (sem1_of (peer c 0) (off := k0_off35 c 1#32) (off35_eq c 0) (k0_off35_inb c 0))
    (credit_rs_of (peer c 0) (off := k0_off36 c 1#32) (off36_eq c 0) (k0_off36_inb c 0))) $$ [HO HW]
  · isplitr; · iexact Hctx
    isplitl [HO]; · iexact HO
    iexact HW
  iintro ⟨HO, HW⟩
  iapply (step_rs_load I c 1 0 (by decide) (off := k0_off37 c 1#32) (off37_eq c 0)) $$ HW
  iintro %v %hv HW
  iapply (step_wait I K 1 c 1 1 2 rfl rfl 15 (Or.inl (by decide)) (sem1_of (peer c 1) (off := k0_off35 c 2#32) (off35_eq c 1) (k0_off35_inb c 1))
    (credit_rs_of (peer c 1) (off := k0_off36 c 2#32) (off36_eq c 1) (k0_off36_inb c 1))) $$ [HO HW]
  · isplitr; · iexact Hctx
    isplitl [HO]; · iexact HO
    iexact HW
  iintro ⟨HO, HW⟩
  iapply (step_rs_load I c 2 1 (by decide) (off := k0_off37 c 2#32) (off37_eq c 1)) $$ HW
  iintro %v' %hv' HW
  iapply (step_wait I K 1 c 2 2 3 rfl rfl 15 (Or.inl (by decide)) (sem1_of (peer c 2) (off := k0_off35 c 3#32) (off35_eq c 2) (k0_off35_inb c 2))
    (credit_rs_of (peer c 2) (off := k0_off36 c 3#32) (off36_eq c 2) (k0_off36_inb c 2))) $$ [HO HW]
  · isplitr; · iexact Hctx
    isplitl [HO]; · iexact HO
    iexact HW
  iintro ⟨HO, HW⟩
  iapply (step_rs_load I c 3 2 (by decide) (off := k0_off37 c 3#32) (off37_eq c 2)) $$ HW
  iintro %v'' %hv'' HW
  rw [show k0_pay13 (accTo I c 0) v v' = accTo I c 2 from by rw [pay13_eq, hv, hv']; rfl]
  iapply (wpc_ret (F := F))
  iapply Hk
  · ipureintro; exact hv''
  isplitl [HO]; · iexact HO
  iexact HW

/-- Three more received blocks added. -/
theorem part8 (c : Dev nD) (w0 w1 w2 : BitVec 32) (u : Vec F S1x96x768 .bf16) (hu : shapeCast S96x768 u shapeCasts_S1x96x768_S96x768 = pvalB I (peer c 2) c) {Kt : _ → sProp 𝕄} :
    iprop(ctx I K ∗ Ow c 15 ∗ Wt I 1 c 3)
      ⊢ iprop(((Ow c 15 ∗ Wt I 1 c 5) -∗ Kt (accTo I c 5))
        -∗ wpc c (k0_part8 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 (accTo I c 2) u) Kt) := by
  rw [k0_part8_eq_skeleton]; unfold k0_part8_skel
  simp only [semSignalWord, semWaitWord, Prog.lift, Prog.bind_op, Prog.bind_ret, Prog.pure_eq_ret, wp_deviceId]
  iintro ⟨#Hctx, HO, HW⟩ Hk
  iapply (step_wait I K 1 c 3 3 4 rfl rfl 15 (Or.inl (by decide)) (sem1_of (peer c 3) (off := k0_off35 c 4#32) (off35_eq c 3) (k0_off35_inb c 3))
    (credit_rs_of (peer c 3) (off := k0_off36 c 4#32) (off36_eq c 3) (k0_off36_inb c 3))) $$ [HO HW]
  · isplitr; · iexact Hctx
    isplitl [HO]; · iexact HO
    iexact HW
  iintro ⟨HO, HW⟩
  iapply (step_rs_load I c 4 3 (by decide) (off := k0_off37 c 4#32) (off37_eq c 3)) $$ HW
  iintro %v %hv HW
  iapply (step_wait I K 1 c 4 4 5 rfl rfl 15 (Or.inl (by decide)) (sem1_of (peer c 4) (off := k0_off35 c 5#32) (off35_eq c 4) (k0_off35_inb c 4))
    (credit_rs_of (peer c 4) (off := k0_off36 c 5#32) (off36_eq c 4) (k0_off36_inb c 4))) $$ [HO HW]
  · isplitr; · iexact Hctx
    isplitl [HO]; · iexact HO
    iexact HW
  iintro ⟨HO, HW⟩
  iapply (step_rs_load I c 5 4 (by decide) (off := k0_off37 c 5#32) (off37_eq c 4)) $$ HW
  iintro %v' %hv' HW
  rw [show k0_pay14 (accTo I c 2) u v v' = accTo I c 5 from by rw [pay14_eq, hu, hv, hv']; rfl]
  iapply (wpc_ret (F := F))
  iapply Hk
  isplitl [HO]; · iexact HO
  iexact HW

set_option maxHeartbeats 1000000 in
/-- The last two received blocks added, the reduced block stored, and its first transfer. -/
theorem part9 (c : Dev nD) (w0 w1 w2 w3 w4 : BitVec 32) {Kt : _ → sProp 𝕄} :
    iprop(ctx I K ∗ Ow c 15 ∗ Wt I 1 c 5 ∗ outC I c 4 ∗ (∃ f : Vec F S96x768 .bf16, aM.view.loc (c : Thread nD τ) ↦{fullShare} f) ∗ agRes (F := F) c)
      ⊢ iprop((∀ x, (Wt I 1 c 7 ∗ outG I c 0 ∗ aRest I c ∗ Ag I c 1) -∗ Kt x)
        -∗ wpc c (k0_part9 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3 w4 (accTo I c 5)) Kt) := by
  rw [k0_part9_eq_skeleton]; unfold k0_part9_skel
  simp only [semSignalWord, semWaitWord, Prog.lift, Prog.bind_op, Prog.bind_ret, Prog.pure_eq_ret, wp_deviceId]
  iintro ⟨#Hctx, HO, HW, HC, ⟨%fa, Ha⟩, HR⟩ Hk
  iapply (step_wait I K 1 c 5 5 6 rfl rfl 15 (Or.inl (by decide)) (sem1_of (peer c 5) (off := k0_off35 c 6#32) (off35_eq c 5) (k0_off35_inb c 5))
    (credit_rs_of (peer c 5) (off := k0_off36 c 6#32) (off36_eq c 5) (k0_off36_inb c 5))) $$ [HO HW]
  · isplitr; · iexact Hctx
    isplitl [HO]; · iexact HO
    iexact HW
  iintro ⟨HO, HW⟩
  iapply (step_rs_load I c 6 5 (by decide) (off := k0_off37 c 6#32) (off37_eq c 5)) $$ HW
  iintro %v %hv HW
  iapply (step_wait I K 1 c 6 6 7 rfl rfl 15 (Or.inl (by decide)) (sem1_of (peer c 6) (off := k0_off35 c 7#32) (off35_eq c 6) (k0_off35_inb c 6))
    (credit_rs_of (peer c 6) (off := k0_off36 c 7#32) (off36_eq c 6) (k0_off36_inb c 6))) $$ [HO HW]
  · isplitr; · iexact Hctx
    isplitl [HO]; · iexact HO
    iexact HW
  iintro ⟨HO, HW⟩
  iapply (step_rs_load I c 7 6 (by decide) (off := k0_off37 c 7#32) (off37_eq c 6)) $$ HW
  iintro %v' %hv' HW
  have h15 : k0_pay15 (accTo I c 5) v v' = acc I c := by rw [pay15_eq, hv, hv']; rfl
  have h16 : k0_pay16 (accTo I c 5) v v' = accB I c := by rw [pay16_eq, h15]; rfl
  iapply (step_out_own I c (off34_eq c) h15) $$ HC
  iintro HG
  iapply (wp_load 𝒱₀ (c : Thread nD τ) none Set.univ (m := aM) (S := Finset.univ) (Finset.subset_univ _)) $$ Ha
  iintro Ha
  iapply (wp_store 𝒱₀ (c : Thread nD τ) none Set.univ (m := aM) (r := Rect.unit (s := S96x768) ![0, 0] S96x768.size inb_S96x768_S96x768_0_0) (S := Finset.univ) (Finset.subset_univ _)) $$ Ha
  iintro Ha
  have q : View.write (Elt F) (aM.access (Rect.unit (s := S96x768) ![0, 0] S96x768.size inb_S96x768_S96x768_0_0)) fa (k0_pay16 (accTo I c 5) v v') Finset.univ = k0_pay16 (accTo I c 5) v v' :=
    Memref.write_access_unit_zero_univ (Elt F) cc0_scratch2 origin inb_S96x768_S96x768_0_0 fa (k0_pay16 (accTo I c 5) v v')
  rw [q, h16]
  ihave H := (a_split I c) $$ [Ha HR HO]
  · isplitl [Ha]; · iexact Ha
    isplitl [HR] <;> iassumption
  icases H with ⟨HA, HE⟩
  iapply (step_ag_send I K c _ 0 0 1 rfl rfl (dev16_eq c) (off39_eq c) (sem2_of (peer c 0) (off := k0_off35 c 1#32) (off35_eq c 0) (k0_off35_inb c 0))
    (sem3_of c (off38_eq c) (k0_off38_inb c))) $$ [HA]
  · isplitr; · iexact Hctx
    iexact HA
  iintro HA
  iapply (wpc_ret (F := F))
  iapply Hk
  isplitl [HW]; · iexact HW
  isplitl [HG]; · iexact HG
  isplitl [HE]; · iexact HE
  iexact HA

/-- Four more transfers of the reduced block. -/
theorem part10 (c : Dev nD) (w0 w1 w2 w3 w4 w5 : BitVec 32) {Kt : _ → sProp 𝕄} :
    iprop(ctx I K ∗ Ag I c 1)
      ⊢ iprop((∀ x, (Ag I c 5) -∗ Kt x)
        -∗ wpc c (k0_part10 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3 w4 w5) Kt) := by
  rw [k0_part10_eq_skeleton]; unfold k0_part10_skel
  simp only [semSignalWord, semWaitWord, Prog.lift, Prog.bind_op, Prog.bind_ret, Prog.pure_eq_ret, wp_deviceId]
  iintro ⟨#Hctx, HA⟩ Hk
  iapply (step_ag_send I K c _ 1 1 2 rfl rfl (dev17_eq c) (off39_eq c) (sem2_of (peer c 1) (off := k0_off35 c 2#32) (off35_eq c 1) (k0_off35_inb c 1))
    (sem3_of c (off38_eq c) (k0_off38_inb c))) $$ [HA]
  · isplitr; · iexact Hctx
    iexact HA
  iintro HA
  iapply (step_ag_send I K c _ 2 2 3 rfl rfl (dev18_eq c) (off39_eq c) (sem2_of (peer c 2) (off := k0_off35 c 3#32) (off35_eq c 2) (k0_off35_inb c 2))
    (sem3_of c (off38_eq c) (k0_off38_inb c))) $$ [HA]
  · isplitr; · iexact Hctx
    iexact HA
  iintro HA
  iapply (step_ag_send I K c _ 3 3 4 rfl rfl (dev19_eq c) (off39_eq c) (sem2_of (peer c 3) (off := k0_off35 c 4#32) (off35_eq c 3) (k0_off35_inb c 3))
    (sem3_of c (off38_eq c) (k0_off38_inb c))) $$ [HA]
  · isplitr; · iexact Hctx
    iexact HA
  iintro HA
  iapply (step_ag_send I K c _ 4 4 5 rfl rfl (dev20_eq c) (off39_eq c) (sem2_of (peer c 4) (off := k0_off35 c 5#32) (off35_eq c 4) (k0_off35_inb c 4))
    (sem3_of c (off38_eq c) (k0_off38_inb c))) $$ [HA]
  · isplitr; · iexact Hctx
    iexact HA
  iintro HA
  iapply (wpc_ret (F := F))
  iapply Hk; iexact HA

/-- The last two transfers, the first peer's reduced block stored, the second's waited for. -/
theorem part11 (c : Dev nD) (w0 w1 w2 : BitVec 32) {Kt : _ → sProp 𝕄} :
    iprop(ctx I K ∗ Ag I c 5 ∗ Wt I 3 c 0 ∗ outG I c 0)
      ⊢ iprop((∀ x, (Ow c 22 ∗ (bigSep Finset.univ fun k : Fin 7 => agPost c (peer c k)) ∗ Wt I 3 c 2 ∗ outG I c 1) -∗ Kt x)
        -∗ wpc c (k0_part11 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2) Kt) := by
  rw [k0_part11_eq_skeleton]; unfold k0_part11_skel
  simp only [semSignalWord, semWaitWord, Prog.lift, Prog.bind_op, Prog.bind_ret, Prog.pure_eq_ret, wp_deviceId]
  iintro ⟨#Hctx, HA, HW, HG⟩ Hk
  iapply (step_ag_send I K c _ 5 5 6 rfl rfl (dev21_eq c) (off39_eq c) (sem2_of (peer c 5) (off := k0_off35 c 6#32) (off35_eq c 5) (k0_off35_inb c 5))
    (sem3_of c (off38_eq c) (k0_off38_inb c))) $$ [HA]
  · isplitr; · iexact Hctx
    iexact HA
  iintro HA
  iapply (step_ag_send I K c _ 6 6 7 rfl rfl (dev22_eq c) (off39_eq c) (sem2_of (peer c 6) (off := k0_off35 c 7#32) (off35_eq c 6) (k0_off35_inb c 6))
    (sem3_of c (off38_eq c) (k0_off38_inb c))) $$ [HA]
  · isplitr; · iexact Hctx
    iexact HA
  iintro HA
  ihave H := (Ag_end I c) $$ HA
  icases H with ⟨HP, HO⟩
  iapply (step_wait I K 3 c 0 0 1 rfl rfl 22 (Or.inr rfl) (sem3_of (peer c 0) (off := k0_off35 c 1#32) (off35_eq c 0) (k0_off35_inb c 0))
    (credit_ag_of (peer c 0) (off := k0_off36 c 1#32) (off36_eq c 0) (k0_off36_inb c 0))) $$ [HO HW]
  · isplitr; · iexact Hctx
    isplitl [HO]; · iexact HO
    iexact HW
  iintro ⟨HO, HW⟩
  iapply (step_ag_load I c 1 0 (by decide) (off := k0_off37 c 1#32) (off37_eq c 0)) $$ HW
  iintro %v %hv HW
  iapply (step_out I c 0 0 1 rfl rfl (off := k0_off40 c 1#32) (off40_eq c 0) (by show extf .f32 (shapeCast S96x768 v shapeCasts_S1x96x768_S96x768) _ = _; rw [hv])) $$ HG
  iintro HG
  iapply (step_wait I K 3 c 1 1 2 rfl rfl 22 (Or.inr rfl) (sem3_of (peer c 1) (off := k0_off35 c 2#32) (off35_eq c 1) (k0_off35_inb c 1))
    (credit_ag_of (peer c 1) (off := k0_off36 c 2#32) (off36_eq c 1) (k0_off36_inb c 1))) $$ [HO HW]
  · isplitr; · iexact Hctx
    isplitl [HO]; · iexact HO
    iexact HW
  iintro ⟨HO, HW⟩
  iapply (wpc_ret (F := F))
  iapply Hk
  isplitl [HO]; · iexact HO
  isplitl [HP]; · iexact HP
  isplitl [HW]; · iexact HW
  iexact HG

/-- Two more peers' reduced blocks stored, the next one loaded. -/
theorem part12 (c : Dev nD) (w0 w1 w2 : BitVec 32) {Kt : _ → sProp 𝕄} :
    iprop(ctx I K ∗ Ow c 22 ∗ Wt I 3 c 2 ∗ outG I c 1)
      ⊢ iprop(((Ow c 22 ∗ Wt I 3 c 4 ∗ outG I c 3) -∗ Kt (extf .f32 (accB I (peer c 3)) bitsLt_bf16_f32))
        -∗ wpc c (k0_part12 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2) Kt) := by
  rw [k0_part12_eq_skeleton]; unfold k0_part12_skel
  simp only [semSignalWord, semWaitWord, Prog.lift, Prog.bind_op, Prog.bind_ret, Prog.pure_eq_ret, wp_deviceId]
  iintro ⟨#Hctx, HO, HW, HG⟩ Hk
  iapply (step_ag_load I c 2 1 (by decide) (off := k0_off37 c 2#32) (off37_eq c 1)) $$ HW
  iintro %v %hv HW
  iapply (step_out I c 1 1 2 rfl rfl (off := k0_off40 c 2#32) (off40_eq c 1) (by show extf .f32 (shapeCast S96x768 v shapeCasts_S1x96x768_S96x768) _ = _; rw [hv])) $$ HG
  iintro HG
  iapply (step_wait I K 3 c 2 2 3 rfl rfl 22 (Or.inr rfl) (sem3_of (peer c 2) (off := k0_off35 c 3#32) (off35_eq c 2) (k0_off35_inb c 2))
    (credit_ag_of (peer c 2) (off := k0_off36 c 3#32) (off36_eq c 2) (k0_off36_inb c 2))) $$ [HO HW]
  · isplitr; · iexact Hctx
    isplitl [HO]; · iexact HO
    iexact HW
  iintro ⟨HO, HW⟩
  iapply (step_ag_load I c 3 2 (by decide) (off := k0_off37 c 3#32) (off37_eq c 2)) $$ HW
  iintro %v' %hv' HW
  iapply (step_out I c 2 2 3 rfl rfl (off := k0_off40 c 3#32) (off40_eq c 2) (by show extf .f32 (shapeCast S96x768 v' shapeCasts_S1x96x768_S96x768) _ = _; rw [hv'])) $$ HG
  iintro HG
  iapply (step_wait I K 3 c 3 3 4 rfl rfl 22 (Or.inr rfl) (sem3_of (peer c 3) (off := k0_off35 c 4#32) (off35_eq c 3) (k0_off35_inb c 3))
    (credit_ag_of (peer c 3) (off := k0_off36 c 4#32) (off36_eq c 3) (k0_off36_inb c 3))) $$ [HO HW]
  · isplitr; · iexact Hctx
    isplitl [HO]; · iexact HO
    iexact HW
  iintro ⟨HO, HW⟩
  iapply (step_ag_load I c 4 3 (by decide) (off := k0_off37 c 4#32) (off37_eq c 3)) $$ HW
  iintro %v'' %hv'' HW
  rw [show k0_pay20 v'' = extf .f32 (accB I (peer c 3)) bitsLt_bf16_f32 from by show extf .f32 (shapeCast S96x768 v'' shapeCasts_S1x96x768_S96x768) _ = _; rw [hv'']]
  iapply (wpc_ret (F := F))
  iapply Hk
  isplitl [HO]; · iexact HO
  isplitl [HW]; · iexact HW
  iexact HG

/-- Three more peers' reduced blocks stored. -/
theorem part13 (c : Dev nD) (w0 w1 w2 : BitVec 32) {Kt : _ → sProp 𝕄} :
    iprop(ctx I K ∗ Ow c 22 ∗ Wt I 3 c 4 ∗ outG I c 3)
      ⊢ iprop((∀ x, (Ow c 22 ∗ Wt I 3 c 6 ∗ outG I c 6) -∗ Kt x)
        -∗ wpc c (k0_part13 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 (extf .f32 (accB I (peer c 3)) bitsLt_bf16_f32)) Kt) := by
  rw [k0_part13_eq_skeleton]; unfold k0_part13_skel
  simp only [semSignalWord, semWaitWord, Prog.lift, Prog.bind_op, Prog.bind_ret, Prog.pure_eq_ret, wp_deviceId]
  iintro ⟨#Hctx, HO, HW, HG⟩ Hk
  iapply (step_out I c 3 3 4 rfl rfl (off := k0_off40 c 4#32) (off40_eq c 3) (rfl)) $$ HG
  iintro HG
  iapply (step_wait I K 3 c 4 4 5 rfl rfl 22 (Or.inr rfl) (sem3_of (peer c 4) (off := k0_off35 c 5#32) (off35_eq c 4) (k0_off35_inb c 4))
    (credit_ag_of (peer c 4) (off := k0_off36 c 5#32) (off36_eq c 4) (k0_off36_inb c 4))) $$ [HO HW]
  · isplitr; · iexact Hctx
    isplitl [HO]; · iexact HO
    iexact HW
  iintro ⟨HO, HW⟩
  iapply (step_ag_load I c 5 4 (by decide) (off := k0_off37 c 5#32) (off37_eq c 4)) $$ HW
  iintro %v %hv HW
  iapply (step_out I c 4 4 5 rfl rfl (off := k0_off40 c 5#32) (off40_eq c 4) (by show extf .f32 (shapeCast S96x768 v shapeCasts_S1x96x768_S96x768) _ = _; rw [hv])) $$ HG
  iintro HG
  iapply (step_wait I K 3 c 5 5 6 rfl rfl 22 (Or.inr rfl) (sem3_of (peer c 5) (off := k0_off35 c 6#32) (off35_eq c 5) (k0_off35_inb c 5))
    (credit_ag_of (peer c 5) (off := k0_off36 c 6#32) (off36_eq c 5) (k0_off36_inb c 5))) $$ [HO HW]
  · isplitr; · iexact Hctx
    isplitl [HO]; · iexact HO
    iexact HW
  iintro ⟨HO, HW⟩
  iapply (step_ag_load I c 6 5 (by decide) (off := k0_off37 c 6#32) (off37_eq c 5)) $$ HW
  iintro %v' %hv' HW
  iapply (step_out I c 5 5 6 rfl rfl (off := k0_off40 c 6#32) (off40_eq c 5) (by show extf .f32 (shapeCast S96x768 v' shapeCasts_S1x96x768_S96x768) _ = _; rw [hv'])) $$ HG
  iintro HG
  iapply (wpc_ret (F := F))
  iapply Hk
  isplitl [HO]; · iexact HO
  isplitl [HW]; · iexact HW
  iexact HG

/-- The last peer's reduced block stored; three of the device's own transfers waited for. -/
theorem part14 (c : Dev nD) (w0 w1 w2 w3 w4 : BitVec 32) {Kt : _ → sProp 𝕄} :
    iprop(ctx I K ∗ Ow c 22 ∗ Wt I 3 c 6 ∗ outG I c 6 ∗ Wt I 0 c 0 ∗ Wt I 2 c 0)
      ⊢ iprop((∀ x, (Ow c 22 ∗ Wt I 3 c 7 ∗ outG I c 7 ∗ Wt I 0 c 2 ∗ Wt I 2 c 1) -∗ Kt x)
        -∗ wpc c (k0_part14 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2 w3 w4) Kt) := by
  rw [k0_part14_eq_skeleton]; unfold k0_part14_skel
  simp only [semSignalWord, semWaitWord, Prog.lift, Prog.bind_op, Prog.bind_ret, Prog.pure_eq_ret, wp_deviceId]
  iintro ⟨#Hctx, HO, HW, HG, HS, HT⟩ Hk
  iapply (step_wait I K 3 c 6 6 7 rfl rfl 22 (Or.inr rfl) (sem3_of (peer c 6) (off := k0_off35 c 7#32) (off35_eq c 6) (k0_off35_inb c 6))
    (credit_ag_of (peer c 6) (off := k0_off36 c 7#32) (off36_eq c 6) (k0_off36_inb c 6))) $$ [HO HW]
  · isplitr; · iexact Hctx
    isplitl [HO]; · iexact HO
    iexact HW
  iintro ⟨HO, HW⟩
  iapply (step_ag_load I c 7 6 (by decide) (off := k0_off37 c 7#32) (off37_eq c 6)) $$ HW
  iintro %v %hv HW
  iapply (step_out I c 6 6 7 rfl rfl (off := k0_off40 c 7#32) (off40_eq c 6) (by show extf .f32 (shapeCast S96x768 v shapeCasts_S1x96x768_S96x768) _ = _; rw [hv])) $$ HG
  iintro HG
  iapply (step_wait I K 0 c 0 0 1 rfl rfl 22 (Or.inr rfl) (sem0_of (peer c 0) (off := k0_off35 c 1#32) (off35_eq c 0) (k0_off35_inb c 0))
    (credit_row_of (peer c 0) (off := k0_off41 c 1#32) (off41_eq c 0) (k0_off41_inb c 0))) $$ [HO HS]
  · isplitr; · iexact Hctx
    isplitl [HO]; · iexact HO
    iexact HS
  iintro ⟨HO, HS⟩
  iapply (step_wait I K 2 c 0 0 1 rfl rfl 22 (Or.inr rfl) (sem2_of (peer c 0) (off := k0_off35 c 1#32) (off35_eq c 0) (k0_off35_inb c 0))
    credit_a) $$ [HO HT]
  · isplitr; · iexact Hctx
    isplitl [HO]; · iexact HO
    iexact HT
  iintro ⟨HO, HT⟩
  iapply (step_wait I K 0 c 1 1 2 rfl rfl 22 (Or.inr rfl) (sem0_of (peer c 1) (off := k0_off35 c 2#32) (off35_eq c 1) (k0_off35_inb c 1))
    (credit_row_of (peer c 1) (off := k0_off41 c 2#32) (off41_eq c 1) (k0_off41_inb c 1))) $$ [HO HS]
  · isplitr; · iexact Hctx
    isplitl [HO]; · iexact HO
    iexact HS
  iintro ⟨HO, HS⟩
  iapply (wpc_ret (F := F))
  iapply Hk
  isplitl [HO]; · iexact HO
  isplitl [HW]; · iexact HW
  isplitl [HG]; · iexact HG
  isplitl [HS]; · iexact HS
  iexact HT

/-- Six more of the device's own transfers waited for. -/
theorem part15 (c : Dev nD) (w0 w1 w2 : BitVec 32) {Kt : _ → sProp 𝕄} :
    iprop(ctx I K ∗ Ow c 22 ∗ Wt I 0 c 2 ∗ Wt I 2 c 1)
      ⊢ iprop((∀ x, (Ow c 22 ∗ Wt I 0 c 5 ∗ Wt I 2 c 4) -∗ Kt x)
        -∗ wpc c (k0_part15 (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10 c w0 w1 w2) Kt) := by
  rw [k0_part15_eq_skeleton]; unfold k0_part15_skel
  simp only [semSignalWord, semWaitWord, Prog.lift, Prog.bind_op, Prog.bind_ret, Prog.pure_eq_ret, wp_deviceId]
  iintro ⟨#Hctx, HO, HS, HT⟩ Hk
  iapply (step_wait I K 2 c 1 1 2 rfl rfl 22 (Or.inr rfl) (sem2_of (peer c 1) (off := k0_off35 c 2#32) (off35_eq c 1) (k0_off35_inb c 1))
    credit_a) $$ [HO HT]
  · isplitr; · iexact Hctx
    isplitl [HO]; · iexact HO
    iexact HT
  iintro ⟨HO, HT⟩
  iapply (step_wait I K 0 c 2 2 3 rfl rfl 22 (Or.inr rfl) (sem0_of (peer c 2) (off := k0_off35 c 3#32) (off35_eq c 2) (k0_off35_inb c 2))
    (credit_row_of (peer c 2) (off := k0_off41 c 3#32) (off41_eq c 2) (k0_off41_inb c 2))) $$ [HO HS]
  · isplitr; · iexact Hctx
    isplitl [HO]; · iexact HO
    iexact HS
  iintro ⟨HO, HS⟩
  iapply (step_wait I K 2 c 2 2 3 rfl rfl 22 (Or.inr rfl) (sem2_of (peer c 2) (off := k0_off35 c 3#32) (off35_eq c 2) (k0_off35_inb c 2))
    credit_a) $$ [HO HT]
  · isplitr; · iexact Hctx
    isplitl [HO]; · iexact HO
    iexact HT
  iintro ⟨HO, HT⟩
  iapply (step_wait I K 0 c 3 3 4 rfl rfl 22 (Or.inr rfl) (sem0_of (peer c 3) (off := k0_off35 c 4#32) (off35_eq c 3) (k0_off35_inb c 3))
    (credit_row_of (peer c 3) (off := k0_off41 c 4#32) (off41_eq c 3) (k0_off41_inb c 3))) $$ [HO HS]
  · isplitr; · iexact Hctx
    isplitl [HO]; · iexact HO
    iexact HS
  iintro ⟨HO, HS⟩
  iapply (step_wait I K 2 c 3 3 4 rfl rfl 22 (Or.inr rfl) (sem2_of (peer c 3) (off := k0_off35 c 4#32) (off35_eq c 3) (k0_off35_inb c 3))
    credit_a) $$ [HO HT]
  · isplitr; · iexact Hctx
    isplitl [HO]; · iexact HO
    iexact HT
  iintro ⟨HO, HT⟩
  iapply (step_wait I K 0 c 4 4 5 rfl rfl 22 (Or.inr rfl) (sem0_of (peer c 4) (off := k0_off35 c 5#32) (off35_eq c 4) (k0_off35_inb c 4))
    (credit_row_of (peer c 4) (off := k0_off41 c 5#32) (off41_eq c 4) (k0_off41_inb c 4))) $$ [HO HS]
  · isplitr; · iexact Hctx
    isplitl [HO]; · iexact HO
    iexact HS
  iintro ⟨HO, HS⟩
  iapply (wpc_ret (F := F))
  iapply Hk
  isplitl [HO]; · iexact HO
  isplitl [HS]; · iexact HS
  iexact HT

end Cert.Mlp

end
-- ==== Proof.Body.lean ====
/-
# The body

The device's resources taken apart as the body uses them, its parts run one after another, and everything put together
again at the end with the cells closed.
-/
module

public import proofs.«01_k».proof.Proof.PartsA
public import proofs.«01_k».proof.Proof.PartsB

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Option (Fin 4 × Dev nD) → ℕ)

/-! ## Taking apart and putting together -/

/-- A family of resources, each turned into another. -/
theorem bigSep_each {α : Type} [Fintype α] {Φ Ψ : α → sProp 𝕄} (h : ∀ i ∈ (Finset.univ : Finset α), Φ i ⊢ Ψ i) :
    bigSep Finset.univ Φ ⊢ bigSep Finset.univ Ψ := bigSep_mono h

theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem rsM_set' (b : Dev nD) : (rsM b).view.set = (slotR b).set := (View.set_reshape _ _).trans (View.set_slice_whole _ _)
theorem agM_set' (b : Dev nD) : (agM b).view.set = (slotR b).set := (View.set_reshape _ _).trans (View.set_slice_whole _ _)
theorem rowM_set' (b : Dev nD) : (rowM b).view.set = (rowR b).set := View.set_slice_whole _ _
theorem chM_set' (q : Fin 4) : (chM q).view.set = (chunkR q).set := View.set_slice_whole _ _

/-- A landing buffer is its slots, the device's own apart. -/
theorem rs_slots (c : Dev nD) : (iprop(∃ f : Vec F S8x96x768 .bf16, rM.view.loc (c : Thread nD τ) ↦{fullShare} f) : sProp 𝕄)
    ⊢ iprop((∃ f, rsPts c c f) ∗ bigSep Finset.univ fun k : Fin 7 => iprop(∃ f, rsPts (F := F) c (peer c k) f)) := by
  rw [← bigSep_devs c (fun p => iprop(∃ f, rsPts (F := F) c p f))]
  iintro ⟨%f, H⟩
  ihave H := (Entails.of_eq (Ring.pointsTo_blocks (ℓ := rM.view.loc (c : Thread nD τ)) (fun b : Dev nD => (rsM b).view.set)
    (fun b b' h => by rw [rsM_set', rsM_set']; exact slots_disjoint h)
    ((Finset.biUnion_congr rfl fun b _ => rsM_set' b).trans slots_cover) f)) $$ H
  iapply (bigSep_each (Φ := fun b : Dev nD => rsPts c b f) (Ψ := fun p => iprop(∃ f, rsPts c p f)) fun b _ => by
    iintro H; iexists f; iexact H)
  iexact H
theorem rs_joins (c : Dev nD) : (iprop((∃ f, rsPts c c f) ∗ bigSep Finset.univ fun k : Fin 7 => iprop(∃ f, rsPts (F := F) c (peer c k) f)) : sProp 𝕄)
    ⊢ iprop(∃ f : Vec F S8x96x768 .bf16, rM.view.loc (c : Thread nD τ) ↦{fullShare} f) := by
  iintro ⟨⟨%f0, H0⟩, H⟩
  iapply (Ring.pointsTo_blocks_join_exists (ℓ := rM.view.loc (c : Thread nD τ)) (fun b : Dev nD => (rsM b).view.set)
    (fun b b' h => by rw [rsM_set', rsM_set']; exact slots_disjoint h)
    ((Finset.biUnion_congr rfl fun b _ => rsM_set' b).trans slots_cover) f0)
  iapply (Entails.of_eq (bigSep_devs c (fun p => iprop(∃ f, rsPts (F := F) c p f))).symm)
  isplitl [H0]; · iexists f0; iexact H0
  iexact H
theorem ag_slots (c : Dev nD) : (iprop(∃ f : Vec F S8x96x768 .bf16, bM.view.loc (c : Thread nD τ) ↦{fullShare} f) : sProp 𝕄)
    ⊢ iprop((∃ f, agPts c c f) ∗ bigSep Finset.univ fun k : Fin 7 => iprop(∃ f, agPts (F := F) c (peer c k) f)) := by
  rw [← bigSep_devs c (fun p => iprop(∃ f, agPts (F := F) c p f))]
  iintro ⟨%f, H⟩
  ihave H := (Entails.of_eq (Ring.pointsTo_blocks (ℓ := bM.view.loc (c : Thread nD τ)) (fun b : Dev nD => (agM b).view.set)
    (fun b b' h => by rw [agM_set', agM_set']; exact slots_disjoint h)
    ((Finset.biUnion_congr rfl fun b _ => agM_set' b).trans slots_cover) f)) $$ H
  iapply (bigSep_each (Φ := fun b : Dev nD => agPts c b f) (Ψ := fun p => iprop(∃ f, agPts c p f)) fun b _ => by
    iintro H; iexists f; iexact H)
  iexact H
theorem ag_joins (c : Dev nD) : (iprop((∃ f, agPts c c f) ∗ bigSep Finset.univ fun k : Fin 7 => iprop(∃ f, agPts (F := F) c (peer c k) f)) : sProp 𝕄)
    ⊢ iprop(∃ f : Vec F S8x96x768 .bf16, bM.view.loc (c : Thread nD τ) ↦{fullShare} f) := by
  iintro ⟨⟨%f0, H0⟩, H⟩
  iapply (Ring.pointsTo_blocks_join_exists (ℓ := bM.view.loc (c : Thread nD τ)) (fun b : Dev nD => (agM b).view.set)
    (fun b b' h => by rw [agM_set', agM_set']; exact slots_disjoint h)
    ((Finset.biUnion_congr rfl fun b _ => agM_set' b).trans slots_cover) f0)
  iapply (Entails.of_eq (bigSep_devs c (fun p => iprop(∃ f, agPts (F := F) c p f))).symm)
  isplitl [H0]; · iexists f0; iexact H0
  iexact H

theorem chunkIx_bij : ∀ c : Dev nD, Function.Bijective (chunkIx c) := by decide +kernel

/-- The send buffer is its chunks, in the order the device goes through them; at the end it is put together from its row blocks. -/
theorem chunks_of (c : Dev nD) : (iprop(∃ f : Vec F S768x768 .bf16, sM.view.loc (c : Thread nD τ) ↦{fullShare} f) : sProp 𝕄) ⊢ chRest c 0 := by
  unfold chRest
  rw [prog_start, show (bigSep Finset.univ fun j : Fin 4 => iprop(∃ f, chPts (F := F) c (chunkIx c j) f)) = bigSep Finset.univ fun q : Fin 4 => iprop(∃ f, chPts c q f)
    from (bigSep_univ_equiv (Equiv.ofBijective (chunkIx c) (chunkIx_bij c)) (fun q => iprop(∃ f, chPts (F := F) c q f))).symm]
  iintro ⟨%f, H⟩
  ihave H := (Entails.of_eq (Ring.pointsTo_blocks (ℓ := sM.view.loc (c : Thread nD τ)) (fun q : Fin 4 => (chM q).view.set)
    (fun b b' h => by rw [chM_set', chM_set']; exact chunks_disjoint h)
    ((Finset.biUnion_congr rfl fun b _ => chM_set' b).trans chunks_cover) f)) $$ H
  iapply (bigSep_each (Φ := fun q : Fin 4 => chPts c q f) (Ψ := fun q => iprop(∃ f, chPts c q f)) fun b _ => by
    iintro H; iexists f; iexact H)
  iexact H
theorem rows_joins (c : Dev nD) : (iprop((∃ f, rowPts c c f) ∗ bigSep Finset.univ fun k : Fin 7 => iprop(∃ f, rowPts (F := F) c (peer c k) f)) : sProp 𝕄)
    ⊢ iprop(∃ f : Vec F S768x768 .bf16, sM.view.loc (c : Thread nD τ) ↦{fullShare} f) := by
  iintro ⟨⟨%f0, H0⟩, H⟩
  iapply (Ring.pointsTo_blocks_join_exists (ℓ := sM.view.loc (c : Thread nD τ)) (fun b : Dev nD => (rowM b).view.set)
    (fun b b' h => by rw [rowM_set', rowM_set']; exact rows_disjoint h)
    ((Finset.biUnion_congr rfl fun b _ => rowM_set' b).trans rows_cover) f0)
  iapply (Entails.of_eq (bigSep_devs c (fun p => iprop(∃ f, rowPts (F := F) c p f))).symm)
  isplitl [H0]; · iexists f0; iexact H0
  iexact H

/-- The reduced block's shares put together. -/
theorem a_joins (c : Dev nD) : (iprop(aRest I c ∗ bigSep Finset.univ fun k : Fin 7 => aPts c (shareOf (peer c k)) (accB I c)) : sProp 𝕄)
    ⊢ iprop(∃ f : Vec F S96x768 .bf16, aM.view.loc (c : Thread nD τ) ↦{fullShare} f) := by
  have hs : aM.view.set = Finset.univ := View.set_whole _
  unfold aRest aPts
  rw [hs]
  iintro ⟨⟨Hd, Hc⟩, H⟩
  iexists _
  iapply (Transfers.pointsTo_toks_join fullShare 8)
  isplitl [Hd]; · iexact Hd
  iapply (Entails.of_eq (bigSep_devs c (fun p : Dev nD => iprop(aM.view.loc (c : Thread nD τ) ↦[Finset.univ]{shareOf p} accB I c))).symm)
  isplitl [Hc]; · iexact Hc
  iexact H

/-! ## The device's resources -/

def pos (c : Dev nD) : sProp 𝕄 :=
  iprop(atPos ER (barCell c) 0 ∅ 0 ∗ bigSep Finset.univ fun a : Fin 4 => bigSep Finset.univ fun p : Dev nD => atPos ER (cell a c p) 0 ∅ 0)
def toks (c : Dev nD) : sProp 𝕄 :=
  bigSep Finset.univ fun p : Dev nD => iprop(dutyTok ER (barCell p) 0 c ∗ dutyTok ER (cell 0 c p) 0 0 ∗ dutyTok ER (cell 1 p c) 0 0
    ∗ dutyTok ER (cell 2 c p) 0 0 ∗ dutyTok ER (cell 3 p c) 0 0)
def creds (c : Dev nD) : sProp 𝕄 :=
  iprop(cred (tallyAt (barCell c) () 7) ∗ (bigSep Finset.univ fun k : Fin 7 => cred (tallyAt (cell 1 c (peer c k)) () N))
    ∗ bigSep Finset.univ fun k : Fin 7 => cred (tallyAt (cell 3 c (peer c k)) () N))
def bufs (c : Dev nD) : sProp 𝕄 :=
  iprop((∃ f : Vec F S768x768 .bf16, sM.view.loc (c : Thread nD τ) ↦{fullShare} f) ∗ (∃ f : Vec F S8x96x768 .bf16, rM.view.loc (c : Thread nD τ) ↦{fullShare} f)
    ∗ (∃ f : Vec F S96x768 .bf16, aM.view.loc (c : Thread nD τ) ↦{fullShare} f) ∗ (∃ f : Vec F S8x96x768 .bf16, bM.view.loc (c : Thread nD τ) ↦{fullShare} f)
    ∗ scrW (F := F) c)
def sems (c : Dev nD) : sProp 𝕄 :=
  iprop(semVal (barCell c) 0 ∗ bigSep Finset.univ fun a : Fin 4 => bigSep Finset.univ fun p : Dev nD => semVal (cell a c p) 0)

def spos (a : Fin 4) (c : Dev nD) : sProp 𝕄 := bigSep Finset.univ fun k : Fin 7 => atPos ER (cell a c (peer c k)) 0 ∅ 0
def barTok (c : Dev nD) : sProp 𝕄 := bigSep Finset.univ fun k : Fin 7 => dutyTok ER (barCell (peer c k)) 0 c
def rsTok (c : Dev nD) : sProp 𝕄 := bigSep Finset.univ fun k : Fin 7 => iprop(dutyTok ER (cell 0 c (peer c k)) 0 0 ∗ dutyTok ER (cell 1 (peer c k) c) 0 0)
def agTok (c : Dev nD) : sProp 𝕄 := bigSep Finset.univ fun k : Fin 7 => iprop(dutyTok ER (cell 2 c (peer c k)) 0 0 ∗ dutyTok ER (cell 3 (peer c k) c) 0 0)

theorem pos_apart (c : Dev nD) : (pos c : sProp 𝕄) ⊢ iprop(atPos ER (barCell c) 0 ∅ 0 ∗ (bigSep Finset.univ fun a : Fin 4 => atPos ER (cell a c c) 0 ∅ 0)
    ∗ spos 0 c ∗ spos 1 c ∗ spos 2 c ∗ spos 3 c) := by
  unfold pos spos
  rw [bigSep_congr (s := Finset.univ) fun (a : Fin 4) _ => bigSep_devs c (fun p => (atPos ER (cell a c p) 0 ∅ 0 : sProp 𝕄)), bigSep_sep',
    bigSep_arrays (fun a => bigSep Finset.univ fun k : Fin 7 => (atPos ER (cell a c (peer c k)) 0 ∅ 0 : sProp 𝕄))]

theorem toks_apart (c : Dev nD) : (toks c : sProp 𝕄) ⊢ iprop(barTok c ∗ rsTok c ∗ agTok c) := by
  unfold toks barTok rsTok agTok
  rw [bigSep_devs c]
  iintro ⟨-, H⟩
  ihave H := (Entails.of_eq (bigSep_sep' Finset.univ _ _)) $$ H
  icases H with ⟨HB, H⟩
  isplitl [HB]; · iexact HB
  iapply (Entails.of_eq (bigSep_sep' Finset.univ (fun k : Fin 7 => iprop(dutyTok ER (cell 0 c (peer c k)) 0 0 ∗ dutyTok ER (cell 1 (peer c k) c) 0 0))
    (fun k : Fin 7 => iprop(dutyTok ER (cell 2 c (peer c k)) 0 0 ∗ dutyTok ER (cell 3 (peer c k) c) 0 0))))
  iapply (bigSep_each fun (k : Fin 7) _ => show _ ⊢ _ from by
    iintro ⟨H0, H1, H2⟩
    isplitl [H0 H1]
    · isplitl [H0]; · iexact H0
      iexact H1
    iexact H2) $$ H

/-- What the first signals hand over. -/
theorem sig_of (c : Dev nD) : (iprop(barTok c ∗ (bigSep Finset.univ fun k : Fin 7 => iprop(∃ f, rsPts (F := F) c (peer c k) f))
    ∗ bigSep Finset.univ fun k : Fin 7 => iprop(∃ f, agPts (F := F) c (peer c k) f)) : sProp 𝕄) ⊢ Sig c 0 := by
  unfold Sig barTok sigPre
  rw [prog_start, bigSep_sep', bigSep_sep']

/-- A receive array's waits, from the launch's credit. -/
theorem wt_of (a : Fin 4) (c : Dev nD) : (iprop((bigSep Finset.univ fun k : Fin 7 => cred (tallyAt (cell a c (peer c k)) () N)) ∗ spos a c) : sProp 𝕄) ⊢ Wt I a c 0 := by
  unfold Wt spos waitPre
  rw [prog_start, bigSep_sep']

/-- What the barrier hands over makes both exchanges' transfers ready. -/
theorem handed (c : Dev nD) : (iprop((bigSep (Finset.univ.erase c) fun d => barPay (F := F) c d) ∗ rsTok c ∗ agTok c ∗ Ow c 7) : sProp 𝕄)
    ⊢ iprop(Rs c 0 ∗ agRes (F := F) c) := by
  have h : (bigSep Finset.univ fun k : Fin 7 => iprop((dutyTok ER (cell 0 c (peer c k)) 0 0 ∗ dutyTok ER (cell 1 (peer c k) c) 0 0) ∗ ∃ f, rsPts (F := F) (peer c k) c f))
      ⊢ (bigSep Finset.univ fun n : Fin 8 => rsPre (F := F) c (sent c n) : sProp 𝕄) := by
    rw [← bigSep_sent c (fun b => rsPre c b), bigSep_devs c, show (rsPre c c : sProp 𝕄) = iprop(emp) from if_pos rfl]
    iintro H
    isplitr; · iempintro
    iapply (bigSep_each fun (k : Fin 7) _ => show _ ⊢ rsPre c (peer c k) from by
      rw [rsPre_of (peer_ne c k)]
      iintro ⟨⟨H0, H1⟩, H2⟩
      isplitl [H0]; · iexact H0
      isplitl [H1]; · iexact H1
      iexact H2) $$ H
  unfold Rs rsTok agTok agRes agPre barPay
  rw [prog_start, bigSep_peers, bigSep_sep']
  iintro ⟨⟨H1, H2⟩, HR, HA, HO⟩
  isplitl [H1 HR HO]
  · isplitl [H1 HR]
    · iapply h
      iapply (Entails.of_eq (bigSep_sep' Finset.univ _ _).symm)
      isplitl [HR]; · iexact HR
      iexact H1
    iexact HO
  ihave H := (Entails.of_eq (bigSep_sep' Finset.univ _ _).symm) $$ [HA H2]
  · isplitl [HA]; · iexact HA
    iexact H2
  iapply (bigSep_each fun (k : Fin 7) _ => show _ ⊢ _ from by
    iintro ⟨⟨H0, H1⟩, H2⟩
    isplitl [H0]; · iexact H0
    isplitl [H1]; · iexact H1
    iexact H2) $$ H

/-- The first exchange's transfers all dealt with: the device's own row block, and the credit to wait with. -/
theorem rs_done (c : Dev nD) : (iprop(Rs c 8 ∗ spos 0 c) : sProp 𝕄) ⊢ iprop((∃ f, rowPts (F := F) c c f) ∗ Wt I 0 c 0 ∗ Ow c 15) := by
  unfold Rs
  rw [prog_end, ← bigSep_sent c (fun b => rsPost (F := F) c b), bigSep_devs c, rsPost_self rfl,
    bigSep_congr (s := Finset.univ) fun (k : Fin 7) _ => rsPost_of (F := F) (peer_ne c k)]
  iintro ⟨⟨⟨Hr, H⟩, HO⟩, HP⟩
  isplitl [Hr]; · iexact Hr
  isplitr [HO]
  · iapply (wt_of I 0 c)
    isplitl [H]; · iexact H
    iexact HP
  iexact HO

/-- Waits all made: the cells' positions, and what came with them. -/
theorem wt_end (a : Fin 4) (c : Dev nD) : (Wt I a c 7 : sProp 𝕄) ⊢ iprop((bigSep Finset.univ fun k : Fin 7 => atPos ER (cell a c (peer c k)) 1 ∅ 0)
    ∗ bigSep Finset.univ fun k : Fin 7 => xferPay I a c (peer c k)) := by
  unfold Wt waitPost
  rw [prog_end, bigSep_sep']

/-! ## Closing the cells -/

/-- A cell with no round left to come closes: its counter is at zero. -/
theorem close_cell (ck : Dev nD × Option (Fin 4 × Dev nD)) (R : ℕ) (hR : ∀ r, R ≤ r → (mlpRd (F := F) I).duties (kcell ck) r = ∅) :
    iprop(ctx I K ∗ atPos ER (kcell ck) R ∅ 0) ⊢ (|={Set.univ}=> semVal (kcell ck) 0 : sProp 𝕄) := by
  iintro ⟨#Hctx, Hat⟩
  iapply (Rounds.cell_close ER (mlpRd I) (Set.mem_univ (K ck)) (fun h => h) (R := R) hR)
  isplitr; · iapply (ctx_inv I K ck); iexact Hctx
  iexact Hat

/-- Each of a family turned into another, with what all of them may read. -/
theorem bigSep_with {α : Type} [Fintype α] [DecidableEq α] {R : sProp 𝕄} [BI.Persistent R] {Φ Ψ : α → sProp 𝕄}
    (h : ∀ i, iprop(R ∗ Φ i) ⊢ Ψ i) : iprop(R ∗ bigSep Finset.univ Φ) ⊢ bigSep Finset.univ Ψ := by
  iintro ⟨#HR, H⟩
  ihave HRs := (BI.bigSep_of_persistent (Finset.univ : Finset α) R) $$ HR
  ihave H := (Entails.of_eq (bigSep_sep' (Finset.univ : Finset α) (fun _ => R) Φ).symm) $$ [HRs H]
  · isplitl [HRs]; · iexact HRs
    iexact H
  iapply (bigSep_each fun i _ => h i)
  iexact H

/-- One semaphore array's cells all close. -/
theorem close_array (a : Fin 4) (c : Dev nD) :
    iprop(ctx I K ∗ atPos ER (cell a c c) 0 ∅ 0 ∗ bigSep Finset.univ fun k : Fin 7 => atPos ER (cell a c (peer c k)) 1 ∅ 0)
      ⊢ (|={Set.univ}=> bigSep Finset.univ fun p : Dev nD => semVal (cell a c p) 0 : sProp 𝕄) := by
  iintro ⟨#Hctx, H0, H⟩
  imod (close_cell I K (c, some (a, c)) 0 (fun r _ => by
    rcases Nat.eq_zero_or_pos r with rfl | h
    · exact duties_self I a c
    · exact duties_later I _ r h)) $$ [H0] with Hz
  · isplitr; · iexact Hctx
    iexact H0
  imod ((bigSep_with fun k : Fin 7 => close_cell I K (c, some (a, peer c k)) 1 (duties_later I _)).trans (bigSep_fupd _ _)) $$ [H] with Hp
  · isplitr; · iexact Hctx
    iexact H
  imodintro
  iapply (Entails.of_eq (bigSep_devs c (fun p => (semVal (cell a c p) 0 : sProp 𝕄))).symm)
  isplitl [Hz]; · iexact Hz
  iexact Hp

/-- The whole set closes. -/
theorem close_all (c : Dev nD) :
    iprop(ctx I K ∗ atPos ER (barCell c) 1 ∅ 0 ∗ (bigSep Finset.univ fun a : Fin 4 => atPos ER (cell a c c) 0 ∅ 0)
        ∗ bigSep Finset.univ fun a : Fin 4 => bigSep Finset.univ fun k : Fin 7 => atPos ER (cell a c (peer c k)) 1 ∅ 0)
      ⊢ (|={Set.univ}=> sems c : sProp 𝕄) := by
  unfold sems
  iintro ⟨#Hctx, Hb, H0, H1⟩
  imod (close_cell I K (c, none) 1 (duties_later I _)) $$ [Hb] with Hz
  · isplitr; · iexact Hctx
    iexact Hb
  ihave H := (Entails.of_eq (bigSep_sep' Finset.univ (fun a : Fin 4 => atPos ER (cell a c c) 0 ∅ 0) _).symm) $$ [H0 H1]
  · isplitl [H0]; · iexact H0
    iexact H1
  imod ((bigSep_with fun a : Fin 4 => close_array I K a c).trans (bigSep_fupd _ _)) $$ [H] with Hp
  · isplitr; · iexact Hctx
    iexact H
  imodintro
  isplitl [Hz]; · iexact Hz
  iexact Hp

/-! ## The body -/

theorem wpc_bind {c : Dev nD} {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc; rw [wp_bind]

/-- The staged inputs. -/
def ins (c : Dev nD) : sProp 𝕄 := iprop((xM.view.loc (c : Thread nD τ) ↦{fullShare} I.x c) ∗ rawW I c)
/-- What the body leaves. -/
def bodyDone (c : Dev nD) : sProp 𝕄 :=
  iprop(Ow c 22 ∗ sems c ∗ bufs (F := F) c ∗ ins I c ∗ (oM.view.loc (c : Thread nD τ) ↦{fullShare} outV I c))

/-- Everything the waits brought back, and what stayed with the device, closes the cells and makes up the buffers. -/
theorem wind_up (c : Dev nD) :
    iprop(ctx I K ∗ atPos ER (barCell c) 1 ∅ 0 ∗ (bigSep Finset.univ fun a : Fin 4 => atPos ER (cell a c c) 0 ∅ 0)
        ∗ (Wt I 0 c 7 ∗ Wt I 1 c 7 ∗ Wt I 2 c 7 ∗ Wt I 3 c 7) ∗ (∃ f, rowPts (F := F) c c f) ∗ (∃ f, rsPts (F := F) c c f) ∗ (∃ f, agPts (F := F) c c f) ∗ aRest I c ∗ opsV I c)
      ⊢ (|={Set.univ}=> iprop(sems c ∗ bufs (F := F) c ∗ (xM.view.loc (c : Thread nD τ) ↦{fullShare} I.x c)) : sProp 𝕄) := by
  iintro ⟨#Hctx, Hb, H0, ⟨HW0, HW1, HW2, HW3⟩, Hrow, Hrs, Hag, Ha, HV⟩
  ihave HW0 := (wt_end I 0 c) $$ HW0
  ihave HW1 := (wt_end I 1 c) $$ HW1
  ihave HW2 := (wt_end I 2 c) $$ HW2
  ihave HW3 := (wt_end I 3 c) $$ HW3
  icases HW0 with ⟨P0, X0⟩
  icases HW1 with ⟨P1, X1⟩
  icases HW2 with ⟨P2, X2⟩
  icases HW3 with ⟨P3, X3⟩
  imod (close_all I K c) $$ [Hb H0 P0 P1 P2 P3] with Hz
  · isplitr; · iexact Hctx
    isplitl [Hb]; · iexact Hb
    isplitl [H0]; · iexact H0
    iapply (Entails.of_eq (bigSep_arrays (fun a => bigSep Finset.univ fun k : Fin 7 => (atPos ER (cell a c (peer c k)) 1 ∅ 0 : sProp 𝕄))).symm)
    isplitl [P0]; · iexact P0
    isplitl [P1]; · iexact P1
    isplitl [P2]; · iexact P2
    iexact P3
  imodintro
  unfold bufs opsV scrW
  icases HV with ⟨Hx, Hg, Hu, Hd⟩
  isplitl [Hz]; · iexact Hz
  isplitr [Hx]
  · isplitl [Hrow X0]
    · iapply (rows_joins c)
      isplitl [Hrow]; · iexact Hrow
      iexact X0
    isplitl [Hrs X1]
    · iapply (rs_joins c)
      isplitl [Hrs]; · iexact Hrs
      iapply (bigSep_each fun (k : Fin 7) _ => show xferPay I 1 c (peer c k) ⊢ iprop(∃ f, rsPts c (peer c k) f) from by
        unfold xferPay; iintro ⟨%f, -, H⟩; iexists f; iexact H) $$ X1
    isplitl [Ha X2]
    · iapply (a_joins I c)
      isplitl [Ha]; · iexact Ha
      iexact X2
    isplitl [Hag X3]
    · iapply (ag_joins c)
      isplitl [Hag]; · iexact Hag
      iapply (bigSep_each fun (k : Fin 7) _ => show xferPay I 3 c (peer c k) ⊢ iprop(∃ f, agPts c (peer c k) f) from by
        unfold xferPay; iintro ⟨%f, -, H⟩; iexists f; iexact H) $$ X3
    isplitl [Hg]; · iexists _; iexact Hg
    isplitl [Hu]; · iexists _; iexact Hu
    iexists _; iexact Hd
  iexact Hx

set_option maxHeartbeats 2000000 in
/-- The kernel's body on one device: from the staged inputs to the result, every cell closed and every buffer returned. -/
theorem body_run (c : Dev nD) {Kt : PUnit → sProp 𝕄} :
    iprop(ctx I K ∗ Ow c 0 ∗ pos c ∗ toks c ∗ creds c ∗ bufs (F := F) c ∗ ins I c ∗ (∃ f : Vec F S768x768 .f32, oM.view.loc (c : Thread nD τ) ↦{fullShare} f))
      ⊢ iprop((bodyDone I c -∗ Kt ⟨⟩) -∗ wpc c (cc0_body (F := F) xM (Memref.isWhole_whole _) gM (Memref.isWhole_whole _) uM (Memref.isWhole_whole _) dM (Memref.isWhole_whole _) oM (Memref.isWhole_whole _) sM (Memref.isWhole_whole _) rM (Memref.isWhole_whole _) aM (Memref.isWhole_whole _) bM (Memref.isWhole_whole _) gbM (Memref.isWhole_whole _) ubM (Memref.isWhole_whole _) dbM (Memref.isWhole_whole _) cc0_scratch7 cc0_scratch8 cc0_scratch9 cc0_scratch10) Kt) := by
  rw [cc0_body_eq_skeleton]; unfold cc0_body_skel
  simp only [Prog.lift, Prog.bind_op, Prog.bind_ret, Prog.pure_eq_ret]
  iintro ⟨#Hctx, HO, HP, HT, HC, HB, HI, ⟨%f, Ho⟩⟩ Hk
  ihave HP := (pos_apart c) $$ HP
  icases HP with ⟨Hat, Hown, P0, P1, P2, P3⟩
  ihave HT := (toks_apart c) $$ HT
  icases HT with ⟨HtB, HtR, HtA⟩
  unfold creds bufs ins
  icases HC with ⟨Hc, C1, C3⟩
  icases HB with ⟨Hs, Hr, Ha, Hb, HB⟩
  icases HI with ⟨Hx, HW⟩
  ihave Hr := (rs_slots c) $$ Hr
  icases Hr with ⟨Hrs, Hr⟩
  ihave Hb := (ag_slots c) $$ Hb
  icases Hb with ⟨Hag, Hb⟩
  ihave HS := (sig_of c) $$ [HtB Hr Hb]
  · isplitl [HtB]; · iexact HtB
    isplitl [Hr]; · iexact Hr
    iexact Hb
  ihave HW1 := (wt_of I 1 c) $$ [C1 P1]
  · isplitl [C1]; · iexact C1
    iexact P1
  ihave HW3 := (wt_of I 3 c) $$ [C3 P3]
  · isplitl [C3]; · iexact C3
    iexact P3
  ihave HR := (chunks_of c) $$ Hs
  ihave HQ : iprop(cred (tallyAt (barCell c) () 7) ∗ atPos ER (barCell c) 0 ∅ 0) $$ [Hc Hat]
  · isplitl [Hc]; · iexact Hc
    iexact Hat
  iapply (wpc_bind (F := F))
  iapply (part1 I K c) $$ [HS HO]
  · isplitr; · iexact Hctx
    isplitl [HS]; · iexact HS
    iexact HO
  iintro %w2 %w4 %w6 %w8 %w10 %w12 %w14 %w16 ⟨HS, HO⟩
  dsimp only
  iapply (wpc_bind (F := F))
  iapply (part2 I K c) $$ [HS HO HQ Hx HW HB]
  · isplitr; · iexact Hctx
    isplitl [HS]; · iexact HS
    isplitl [HO]; · iexact HO
    isplitl [HQ]; · iexact HQ
    isplitl [Hx]; · iexact Hx
    isplitl [HW]; · iexact HW
    iexact HB
  iintro %x2 ⟨HO, Hat, Hp, HW, HV⟩
  ihave H := (handed c) $$ [Hp HtR HtA HO]
  · isplitl [Hp]; · iexact Hp
    isplitl [HtR]; · iexact HtR
    isplitl [HtA]; · iexact HtA
    iexact HO
  icases H with ⟨HRs, HA⟩
  ihave HC : (Ch I c 0) $$ [HV Ho HR]
  · unfold Ch outC
    isplitl [HV]; · iexact HV
    isplitl [Ho]
    · iexists f; isplitr; · ipureintro; exact fun j hj => absurd hj (Nat.not_lt_zero _)
      iexact Ho
    iexact HR
  iapply (wpc_bind (F := F))
  iapply (part3 I K c) $$ [HC HRs]
  · isplitr; · iexact Hctx
    isplitl [HC]; · iexact HC
    iexact HRs
  iintro %x3 ⟨HC, HRs⟩
  iapply (wpc_bind (F := F))
  iapply (part4 I K c) $$ [HC HRs]
  · isplitr; · iexact Hctx
    isplitl [HC]; · iexact HC
    iexact HRs
  iintro %x4 ⟨HC, HRs⟩
  iapply (wpc_bind (F := F))
  iapply (part5 I K c) $$ [HC HRs]
  · isplitr; · iexact Hctx
    isplitl [HC]; · iexact HC
    iexact HRs
  iintro %x5 ⟨HC, HRs⟩
  iapply (wpc_bind (F := F))
  iapply (part6 I K c) $$ [HC HRs]
  · isplitr; · iexact Hctx
    isplitl [HC]; · iexact HC
    iexact HRs
  iintro %x6 %y6 ⟨HC, HRs⟩
  dsimp only
  ihave H := (rs_done I c) $$ [HRs P0]
  · isplitl [HRs]; · iexact HRs
    iexact P0
  icases H with ⟨Hrow, HW0, HO⟩
  unfold Ch
  icases HC with ⟨HV, HC, -⟩
  iapply (wpc_bind (F := F))
  iapply (part7 I K c) $$ [HO HW1]
  · isplitr; · iexact Hctx
    isplitl [HO]; · iexact HO
    iexact HW1
  iintro %v7 %h7 ⟨HO, HW1⟩
  dsimp only
  iapply (wpc_bind (F := F))
  iapply (part8 I K c _ _ _ v7 h7) $$ [HO HW1]
  · isplitr; · iexact Hctx
    isplitl [HO]; · iexact HO
    iexact HW1
  iintro ⟨HO, HW1⟩
  iapply (wpc_bind (F := F))
  iapply (part9 I K c) $$ [HO HW1 HC Ha HA]
  · isplitr; · iexact Hctx
    isplitl [HO]; · iexact HO
    isplitl [HW1]; · iexact HW1
    isplitl [HC]; · iexact HC
    isplitl [Ha]; · iexact Ha
    iexact HA
  iintro %x9 ⟨HW1, HG, HE, HA⟩
  iapply (wpc_bind (F := F))
  iapply (part10 I K c) $$ [HA]
  · isplitr; · iexact Hctx
    iexact HA
  iintro %x10 HA
  iapply (wpc_bind (F := F))
  iapply (part11 I K c) $$ [HA HW3 HG]
  · isplitr; · iexact Hctx
    isplitl [HA]; · iexact HA
    isplitl [HW3]; · iexact HW3
    iexact HG
  iintro %x11 ⟨HO, HP, HW3, HG⟩
  ihave HW2 := (wt_of I 2 c) $$ [HP P2]
  · isplitl [HP]; · iexact HP
    iexact P2
  iapply (wpc_bind (F := F))
  iapply (part12 I K c) $$ [HO HW3 HG]
  · isplitr; · iexact Hctx
    isplitl [HO]; · iexact HO
    isplitl [HW3]; · iexact HW3
    iexact HG
  iintro ⟨HO, HW3, HG⟩
  iapply (wpc_bind (F := F))
  iapply (part13 I K c) $$ [HO HW3 HG]
  · isplitr; · iexact Hctx
    isplitl [HO]; · iexact HO
    isplitl [HW3]; · iexact HW3
    iexact HG
  iintro %x13 ⟨HO, HW3, HG⟩
  iapply (wpc_bind (F := F))
  iapply (part14 I K c) $$ [HO HW3 HG HW0 HW2]
  · isplitr; · iexact Hctx
    isplitl [HO]; · iexact HO
    isplitl [HW3]; · iexact HW3
    isplitl [HG]; · iexact HG
    isplitl [HW0]; · iexact HW0
    iexact HW2
  iintro %x14 ⟨HO, HW3, HG, HW0, HW2⟩
  iapply (wpc_bind (F := F))
  iapply (part15 I K c) $$ [HO HW0 HW2]
  · isplitr; · iexact Hctx
    isplitl [HO]; · iexact HO
    isplitl [HW0]; · iexact HW0
    iexact HW2
  iintro %x15 ⟨HO, HW0, HW2⟩
  iapply (step_wait I K 2 c 4 4 5 rfl rfl 22 (Or.inr rfl) (sem2_of (peer c 4) (off := k0_off35 c 5#32) (off35_eq c 4) (k0_off35_inb c 4))
    credit_a) $$ [HO HW2]
  · isplitr; · iexact Hctx
    isplitl [HO]; · iexact HO
    iexact HW2
  iintro ⟨HO, HW2⟩
  iapply (step_wait I K 0 c 5 5 6 rfl rfl 22 (Or.inr rfl) (sem0_of (peer c 5) (off := k0_off35 c 6#32) (off35_eq c 5) (k0_off35_inb c 5))
    (credit_row_of (peer c 5) (off := k0_off41 c 6#32) (off41_eq c 5) (k0_off41_inb c 5))) $$ [HO HW0]
  · isplitr; · iexact Hctx
    isplitl [HO]; · iexact HO
    iexact HW0
  iintro ⟨HO, HW0⟩
  iapply (step_wait I K 2 c 5 5 6 rfl rfl 22 (Or.inr rfl) (sem2_of (peer c 5) (off := k0_off35 c 6#32) (off35_eq c 5) (k0_off35_inb c 5))
    credit_a) $$ [HO HW2]
  · isplitr; · iexact Hctx
    isplitl [HO]; · iexact HO
    iexact HW2
  iintro ⟨HO, HW2⟩
  iapply (step_wait I K 0 c 6 6 7 rfl rfl 22 (Or.inr rfl) (sem0_of (peer c 6) (off := k0_off35 c 7#32) (off35_eq c 6) (k0_off35_inb c 6))
    (credit_row_of (peer c 6) (off := k0_off41 c 7#32) (off41_eq c 6) (k0_off41_inb c 6))) $$ [HO HW0]
  · isplitr; · iexact Hctx
    isplitl [HO]; · iexact HO
    iexact HW0
  iintro ⟨HO, HW0⟩
  iapply (step_wait I K 2 c 6 6 7 rfl rfl 22 (Or.inr rfl) (sem2_of (peer c 6) (off := k0_off35 c 7#32) (off35_eq c 6) (k0_off35_inb c 6))
    credit_a) $$ [HO HW2]
  · isplitr; · iexact Hctx
    isplitl [HO]; · iexact HO
    iexact HW2
  iintro ⟨HO, HW2⟩
  imod (wind_up I K c) $$ [Hat Hown HW0 HW1 HW2 HW3 Hrow Hrs Hag HE HV] with H
  · isplitr; · iexact Hctx
    isplitl [Hat]; · iexact Hat
    isplitl [Hown]; · iexact Hown
    isplitl [HW0 HW1 HW2 HW3]
    · isplitl [HW0]; · iexact HW0
      isplitl [HW1]; · iexact HW1
      isplitl [HW2]; · iexact HW2
      iexact HW3
    isplitl [Hrow]; · iexact Hrow
    isplitl [Hrs]; · iexact Hrs
    isplitl [Hag]; · iexact Hag
    isplitl [HE]; · iexact HE
    iexact HV
  icases H with ⟨Hz, HB, Hx⟩
  ihave Ho := (outG_end I c) $$ HG
  iapply (wpc_ret (F := F))
  iapply Hk
  unfold bodyDone ins
  isplitl [HO]; · iexact HO
  isplitl [Hz]; · iexact Hz
  isplitl [HB]; · iexact HB
  isplitl [Hx HW]
  · isplitl [Hx]; · iexact Hx
    iexact HW
  iexact Ho

end Cert.Mlp

end
-- ==== Proof.Launch.lean ====
/-
# The launch

What each device starts from, dealt out of the launch: the cells' invariants, the tokens of the payments it makes, the
credit it is owed. Then the run of the whole program: it stops, nothing is left on any semaphore, and each device's
result array holds what its body computed.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## What a device owes at launch -/

theorem sum_peers {M : Type} [AddCommMonoid M] (c : Dev nD) (f : Dev nD → M) :
    ∑ k : Fin 7, f (peer c k) = ∑ p : Dev nD, if p = c then 0 else f p := by
  have h : Finset.univ.map ⟨peer c, peer_inj c⟩ = Finset.univ.erase c := by
    revert c; decide
  rw [← Finset.add_sum_erase Finset.univ _ (Finset.mem_univ c), if_pos rfl, zero_add, ← h, Finset.sum_map]
  exact Finset.sum_congr rfl fun k _ => (if_neg (peer_ne c k)).symm

theorem sum_sent {M : Type} [AddCommMonoid M] (c : Dev nD) (f : Dev nD → M) : ∑ n : Fin 8, f (sent c n) = ∑ p : Dev nD, f p :=
  Fintype.sum_bijective (sent c) (sent_bij c) _ _ fun _ => rfl

/-- What one device pays another: a unit at its barrier and a block's credit in each exchange. -/
def dueTo (d p : Dev nD) : CellTallies nD τ sig Unit :=
  tallyAt (barCell p) () 1 + tallyAt (cell 1 p d) () N + tallyAt (cell 3 p d) () N

theorem Orem_start (d : Dev nD) : Orem d 0 = ∑ p : Dev nD, if p = d then 0 else dueTo d p := by
  have h : Orem d 0 = ∑ k : Fin 7, due d k.val + ∑ n : Fin 8, due d (7 + n.val) + ∑ k : Fin 7, due d (15 + k.val) := by
    unfold Orem
    rw [← Finset.range_eq_Ico, show (22 : ℕ) = 7 + 8 + 7 from rfl, Finset.sum_range_add, Finset.sum_range_add, Finset.sum_range, Finset.sum_range, Finset.sum_range]
  rw [h, Finset.sum_congr rfl fun k _ => due_bar d k, Finset.sum_congr rfl fun n _ => due_rs d n, Finset.sum_congr rfl fun k _ => due_ag d k,
    sum_peers d (fun p => (tallyAt (barCell p) () 1 : CellTallies nD τ sig Unit)),
    sum_sent d (fun p => if p = d then (0 : CellTallies nD τ sig Unit) else tallyAt (cell 1 p d) () N),
    sum_peers d (fun p => (tallyAt (cell 3 p d) () N : CellTallies nD τ sig Unit)), ← Finset.sum_add_distrib, ← Finset.sum_add_distrib]
  refine Finset.sum_congr rfl fun p _ => ?_
  by_cases hp : p = d
  · rw [if_pos hp, if_pos hp, if_pos hp, if_pos hp, add_zero, add_zero]
  · rw [if_neg hp, if_neg hp, if_neg hp, if_neg hp]; rfl

theorem cell_eq {a a' : Fin 4} {c c' p p' : Dev nD} (h : cell a c p = cell a' c' p') : a = a' ∧ c = c' ∧ p = p' := by
  have h1 : c = c' := Fin.ext (congrArg (fun g : GSem nD τ sig => g.1.1.val) h)
  have h2 := osem_inj (congrArg Prod.snd h : osem (a, p) = osem (a', p'))
  exact ⟨congrArg Prod.fst h2, h1, congrArg Prod.snd h2⟩
theorem bar_eq {c c' : Dev nD} (h : barCell c = barCell c') : c = c' :=
  Fin.ext (congrArg (fun g : GSem nD τ sig => g.1.1.val) h)
theorem cell_ne_bar (a : Fin 4) (c p d : Dev nD) : cell a c p ≠ barCell d := fun h => osem_ne_bar _ (congrArg Prod.snd h)

theorem dueTo_at (d p : Dev nD) (g : GSem nD τ sig) :
    dueTo d p g () = (if g = barCell p then 1 else 0) + (if g = cell 1 p d then N else 0) + (if g = cell 3 p d then N else 0) := by
  unfold dueTo
  rw [Pi.add_apply, Finsupp.add_apply, Pi.add_apply, Finsupp.add_apply, tallyAt_apply, tallyAt_apply, tallyAt_apply]
  simp only [and_true]

theorem dueTo_bar (d p c : Dev nD) : dueTo d p (barCell c) () = if p = c then 1 else 0 := by
  rw [dueTo_at, if_neg (cell_ne_bar 1 p d c).symm, if_neg (cell_ne_bar 3 p d c).symm, add_zero, add_zero]
  by_cases h : p = c
  · subst h; rw [if_pos rfl, if_pos rfl]
  · rw [if_neg (fun e => h (bar_eq e).symm), if_neg h]

theorem dueTo_cell (a : Fin 4) (ha : a = 1 ∨ a = 3) (d p c q : Dev nD) : dueTo d p (cell a c q) () = if p = c then (if d = q then N else 0) else 0 := by
  rw [dueTo_at, if_neg (cell_ne_bar _ _ _ _), zero_add]
  by_cases h : p = c
  · subst h
    rw [if_pos rfl]
    by_cases h' : d = q
    · subst h'
      rw [if_pos rfl]
      rcases ha with rfl | rfl
      · rw [if_pos rfl, if_neg (fun e => absurd (cell_eq e).1 (by decide)), add_zero]
      · rw [if_neg (fun e => absurd (cell_eq e).1 (by decide)), if_pos rfl, zero_add]
    · rw [if_neg h', if_neg (fun e => h' (cell_eq e).2.2.symm), if_neg (fun e => h' (cell_eq e).2.2.symm)]
  · rw [if_neg h, if_neg (fun e => h (cell_eq e).2.1.symm), if_neg (fun e => h (cell_eq e).2.1.symm)]

theorem Orem_at (d : Dev nD) (g : GSem nD τ sig) : Orem d 0 g () = ∑ p : Dev nD, if p = d then 0 else dueTo d p g () := by
  rw [Orem_start, Finset.sum_apply, Finsupp.finsetSum_apply]
  refine Finset.sum_congr rfl fun p _ => ?_
  split <;> rfl

theorem credit_bar (c : Dev nD) : ∑ d : Dev nD, Orem d 0 (barCell c) () = 7 := by
  rw [Finset.sum_congr rfl fun d _ => (Orem_at d (barCell c)).trans (Finset.sum_congr rfl fun p _ => by rw [dueTo_bar])]
  revert c; decide

theorem credit_cell (a : Fin 4) (ha : a = 1 ∨ a = 3) (c q : Dev nD) (h : q ≠ c) : ∑ d : Dev nD, Orem d 0 (cell a c q) () = N := by
  rw [Finset.sum_congr rfl fun d _ => (Orem_at d (cell a c q)).trans (Finset.sum_congr rfl fun p _ => by rw [dueTo_cell a ha]),
    Finset.sum_eq_single q, Finset.sum_eq_single c]
  · rw [if_neg (fun e => h e.symm), if_pos rfl, if_pos rfl]
  · intro p _ hp; split <;> first | rfl | rw [if_neg hp]
  · exact fun h => absurd (Finset.mem_univ _) h
  · intro d _ hd
    exact Finset.sum_eq_zero fun p _ => by rw [if_neg hd, ite_self, ite_self]
  · exact fun h => absurd (Finset.mem_univ _) h

theorem launch_bar (c : Dev nD) :
    tallyOn (barCell c) (launchCredit (Pipeline.owing fun d => Orem d 0) 0 (barCell c)) = (tallyAt (barCell c) () 7 : CellTallies nD τ sig Unit) := by
  unfold tallyAt; refine congrArg _ (Finsupp.ext fun u => ?_); cases u
  rw [Pipeline.launchCredit_owing, Finsupp.single_eq_same, credit_bar]
theorem launch_cell (a : Fin 4) (ha : a = 1 ∨ a = 3) (c q : Dev nD) (h : q ≠ c) :
    tallyOn (cell a c q) (launchCredit (Pipeline.owing fun d => Orem d 0) 0 (cell a c q)) = (tallyAt (cell a c q) () N : CellTallies nD τ sig Unit) := by
  unfold tallyAt; refine congrArg _ (Finsupp.ext fun u => ?_); cases u
  rw [Pipeline.launchCredit_owing, Finsupp.single_eq_same, credit_cell a ha c q h]

/-! ## A device's cells, one by one -/

theorem csem_inj : Function.Injective csem := by
  rintro (_ | k) (_ | k') h
  · rfl
  · exact absurd h.symm (osem_ne_bar k')
  · exact absurd h (osem_ne_bar k)
  · exact congrArg some (osem_inj h)

theorem kcell_inj : Function.Injective kcell := by
  rintro ⟨c, o⟩ ⟨c', o'⟩ h
  have h1 : c = c' := Fin.ext (congrArg (fun g : GSem nD τ sig => g.1.1.val) h)
  have h2 : o = o' := csem_inj (congrArg Prod.snd h)
  rw [h1, h2]

theorem bigSep_cells (Φ : Option (Fin 4 × Dev nD) → sProp 𝕄) :
    bigSep Finset.univ Φ = iprop(Φ none ∗ bigSep Finset.univ fun a : Fin 4 => bigSep Finset.univ fun p : Dev nD => Φ (some (a, p))) := by
  have h : (Finset.univ : Finset (Option (Fin 4 × Dev nD))).erase none = Finset.univ.map Function.Embedding.some := by
    ext o; cases o <;> simp
  rw [bigSep_apart (Finset.mem_univ (none : Option (Fin 4 × Dev nD))), h, bigSep_map, bigSep_univ_prod]
  rfl

/-- A family over all semaphores holds what it holds at a device's cells. -/
theorem bigSep_at_cells (Φ : SemLoc sig → sProp 𝕄) : bigSep Finset.univ Φ ⊢ bigSep Finset.univ fun o => Φ (csem o) := by
  have h : bigSep (Finset.univ.map ⟨csem, csem_inj⟩) Φ = bigSep Finset.univ fun o => Φ (csem o) := by
    rw [bigSep_map]; rfl
  rw [← h]
  exact bigSep_subset (Finset.subset_univ _)

theorem creds_of (c : Dev nD) : (Pipeline.launchCred (fun d => Orem d 0) c : sProp 𝕄) ⊢ creds c := by
  unfold Pipeline.launchCred creds
  refine (bigSep_at_cells _).trans ?_
  rw [bigSep_cells, bigSep_arrays]
  iintro ⟨Hb, -, H1, -, H3⟩
  isplitl [Hb]
  · iapply (Entails.of_eq (congrArg cred (launch_bar c))); iexact Hb
  isplitl [H1]
  · ihave H := (Entails.of_eq (bigSep_devs c _)) $$ H1
    icases H with ⟨-, H⟩
    iapply (bigSep_each (Φ := fun k : Fin 7 => cred (tallyOn (cell 1 c (peer c k)) (launchCredit (Pipeline.owing fun d => Orem d 0) 0 (cell 1 c (peer c k)))))
      fun k _ => Entails.of_eq (congrArg cred (launch_cell 1 (Or.inl rfl) c (peer c k) (peer_ne c k))))
    iexact H
  · ihave H := (Entails.of_eq (bigSep_devs c _)) $$ H3
    icases H with ⟨-, H⟩
    iapply (bigSep_each (Φ := fun k : Fin 7 => cred (tallyOn (cell 3 c (peer c k)) (launchCredit (Pipeline.owing fun d => Orem d 0) 0 (cell 3 c (peer c k)))))
      fun k _ => Entails.of_eq (congrArg cred (launch_cell 3 (Or.inr rfl) c (peer c k) (peer_ne c k))))
    iexact H

/-! ## The tokens, minted for who pays -/

/-- The `j`-th token device `d` pays to or for `p` with. -/
def tokOf (x : Dev nD × Dev nD × Fin 5) : GSem nD τ sig × ℕ × Dev nD :=
  match x with
  | (d, p, 0) => (barCell p, 0, d)
  | (d, p, 1) => (cell 0 d p, 0, 0)
  | (d, p, 2) => (cell 1 p d, 0, 0)
  | (d, p, 3) => (cell 2 d p, 0, 0)
  | (d, p, 4) => (cell 3 p d, 0, 0)

theorem tokOf_inj : Function.Injective tokOf := by
  rintro ⟨d, p, j⟩ ⟨d', p', j'⟩ h
  have hg := congrArg Prod.fst h
  have hd := congrArg (fun x => x.2.2) h
  fin_cases j <;> fin_cases j' <;>
    first
    | (have e := cell_eq hg; obtain ⟨-, rfl, rfl⟩ := e; rfl)
    | exact absurd (cell_eq hg).1 (by decide)
    | exact absurd hg (cell_ne_bar _ _ _ _)
    | exact absurd hg.symm (cell_ne_bar _ _ _ _)
    | (have e := bar_eq hg; subst e; have e' : d = d' := hd; subst e'; rfl)

def allCells : Finset (GSem nD τ sig) := Finset.univ.map ⟨kcell, kcell_inj⟩
def allToks : Finset (GSem nD τ sig × ℕ × Dev nD) := Finset.univ.map ⟨tokOf, tokOf_inj⟩

def u₀ : UU := (initOf (Pipeline.cells cfgs cellOf_inj) (Pipeline.launchToks cfgs cellOf_inj), initOf allCells allToks)

variable (I : Ins F)

/-- What the launch deals device `c`. -/
def G (c : Dev nD) : sProp 𝕄 :=
  iprop((bigSep Finset.univ fun o => roundState ER (mlpRd I) (kcell (c, o)) 0)
    ∗ (bigSep Finset.univ fun o => reached ER (kcell (c, o)) 0) ∗ (bigSep Finset.univ fun o => atPos ER (kcell (c, o)) 0 ∅ 0) ∗ toks c)
/-- What the devices make of it together. -/
def G' (c : Dev nD) : sProp 𝕄 := iprop((∃ K, records I K) ∗ pos c ∗ toks c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun o => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_prod]
    refine bigSep_congr fun p _ => ?_
    rw [bigSep_univ_eq_bigSepL [0, 1, 2, 3, 4] (by decide) (by decide)]
    simp only [bigSepL_cons_cons, bigSepL_singleton, Function.Embedding.coeFn_mk, tokOf]
    rfl
  iintro HX
  imod (Rounds.fund ER (mlpRd I) allCells allToks) $$ HX with ⟨Hst, Hr, Hat, Htok⟩
  imodintro
  ihave Hst' := (Entails.of_eq (hX fun g => roundState ER (mlpRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

theorem own_sems (c : Dev nD) : (Pipeline.ownSems0 (Ix := Unit) (Name := ℕ) (U := UU) (Lvl := ℕ) (Val := Elt F) (τ := τ) osem c : sProp 𝕄)
    = bigSep Finset.univ fun a : Fin 4 => bigSep Finset.univ fun p : Dev nD => semVal (cell a c p) 0 := by
  unfold Pipeline.ownSems0; rw [bigSep_univ_prod]
theorem shared_sems (c : Dev nD) : (unscopedSems0 c : sProp 𝕄) = semVal (barCell c) 0 := by
  unfold unscopedSems0; rw [bigSep_eq_bigSepL_of_eq [SemLoc.reg barS] (by decide) (by decide)]; rfl

theorem alloc_one (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun o => iprop(∃ κ : ℕ, cellInv ER (mlpRd I) κ (kcell (c, o))))
          ∗ (bigSep Finset.univ fun o => reached ER (kcell (c, o)) 0) ∗ pos c ∗ toks c) := by
  have hp : (bigSep Finset.univ fun o => (atPos ER (kcell (c, o)) 0 ∅ 0 : sProp 𝕄)) = pos c := bigSep_cells _
  have hs : (bigSep Finset.univ fun o => (semVal (kcell (c, o)) 0 : sProp 𝕄)) = sems c := bigSep_cells _
  unfold G
  rw [own_sems, shared_sems, hp]
  iintro ⟨Hos, Hus, Hst, Hr, Hat, Htok⟩
  imod (show iprop((bigSep Finset.univ fun o => semVal (kcell (c, o)) 0) ∗ bigSep Finset.univ fun o => roundState ER (mlpRd I) (kcell (c, o)) 0)
      ⊢ (|={Set.univ}=> bigSep Finset.univ fun o => iprop(∃ κ : ℕ, cellInv ER (mlpRd I) κ (kcell (c, o))) : sProp 𝕄) from by
        rw [← bigSep_sep']
        exact (bigSep_mono fun o _ => (Rounds.body_intro ER (mlpRd I) (kcell (c, o))).trans inv_alloc).trans (bigSep_fupd _ _)) $$ [Hos Hus Hst] with Hinv
  · isplitl [Hos Hus]
    · rw [hs]; unfold sems
      isplitl [Hus] <;> iassumption
    · iexact Hst
  imodintro
  isplitl [Hinv]; · iexact Hinv
  isplitl [Hr]; · iexact Hr
  isplitl [Hat] <;> iassumption

theorem share_out :
    (bigSep Finset.univ fun c : Dev nD => iprop((bigSep Finset.univ fun o => iprop(∃ κ : ℕ, cellInv ER (mlpRd I) κ (kcell (c, o))))
          ∗ (bigSep Finset.univ fun o => reached ER (kcell (c, o)) 0) ∗ pos c ∗ toks c) : sProp 𝕄)
      ⊢ bigSep Finset.univ (G' I) := by
  rw [bigSep_sep', bigSep_sep', ← bigSep_univ_prod (fun ck => iprop(∃ κ : ℕ, cellInv ER (mlpRd I) κ (kcell ck))),
    ← bigSep_univ_prod (fun ck => (reached ER (kcell ck) 0 : sProp 𝕄))]
  iintro ⟨HI, #HR, H⟩
  ihave HK := (BI.bigSep_exists_pi Finset.univ (fun (ck : Dev nD × Option (Fin 4 × Dev nD)) (κ : ℕ) => (cellInv ER (mlpRd I) κ (kcell ck) : sProp 𝕄))) $$ HI
  icases HK with ⟨%K, #HI⟩
  iapply (bigSep_with (R := records I K) (Φ := fun c => iprop(pos c ∗ toks c)) (Ψ := G' I) fun c => by
    unfold G'
    iintro ⟨HR, H⟩
    isplitl [HR]
    · iexists K; iexact HR
    · iexact H)
  isplitr
  · unfold records; isplitl; · iexact HI
    iexact HR
  · iexact H

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc_one I c).trans (bigSep_fupd _ _)).trans (BI.fupd_mono (share_out I))

/-! ## The launch's data -/

variable (m : (ℓ : Loc nD τ sig) → Buf (Elt F) ℓ) (ρ : Dev nD → PrngReg)

def s₀ : MemSt nD τ sig (Elt F) := ⟨m, fun _ => 0, ρ⟩

/-- The arguments as staged for the bodies. -/
def ins₀ : Ins F where
  x c := (win0_0.blk t0_0).view.read (Elt F) ((s₀ m ρ).mem ((c : Thread nD τ).loc main_arg0))
  g c := (win0_1.blk t0_0).view.read (Elt F) ((s₀ m ρ).mem ((c : Thread nD τ).loc main_arg1))
  u c := (win0_2.blk t0_0).view.read (Elt F) ((s₀ m ρ).mem ((c : Thread nD τ).loc main_arg2))
  d c := (win0_3.blk t0_0).view.read (Elt F) ((s₀ m ρ).mem ((c : Thread nD τ).loc main_arg3))

/-- What a device's body starts from, apart from its buffers. -/
def start (c : Dev nD) : sProp 𝕄 := iprop(G' (ins₀ m ρ) c ∗ creds c ∗ levAts L lv)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins₀ m ρ).x c
    | ⟨1, _⟩ => (ins₀ m ρ).g c
    | ⟨2, _⟩ => (ins₀ m ρ).u c
    | ⟨3, _⟩ => (ins₀ m ρ).d c
    | ⟨4, _⟩ => outV (ins₀ m ρ) c
  Φ t := match t with
    | ⟨0, _⟩ => iprop(start m ρ c ∗ bufs (F := F) c)
    | ⟨_ + 1, _⟩ => iprop(sems c ∗ bufs (F := F) c)
  q _ := fullShare
  owed t := match t with
    | ⟨0, _⟩ => Orem c 0
    | ⟨_ + 1, _⟩ => 0

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, whole, at given contents. -/
abbrev stg (c : Dev nD) (b : Ref sig .tc) (X : b.ty.Contents (Elt F)) : sProp 𝕄 :=
  owns (Ix := Unit) (Name := ℕ) (U := UU) (Lvl := ℕ) (c : Thread nD τ) (Memref.whole b) fullShare X
theorem stg_of (c : Dev nD) (b : Ref sig .tc) (X : b.ty.Contents (Elt F)) : (((c : Thread nD τ).loc b ↦{fullShare} X) : sProp 𝕄) ⊢ stg c b X := by
  iintro H
  iapply (Entails.of_eq (owns_all c b X).symm)
  iexists X
  isplitr; · (ipureintro; rfl)
  iexact H

def bodyPre (c : Dev nD) : sProp 𝕄 :=
  iprop((start m ρ c ∗ bufs (F := F) c) ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost (c : Dev nD) : sProp 𝕄 :=
  iprop((sems c ∗ bufs (F := F) c) ∗ (dats m ρ 0 c).owesAt () t0_0.succ
    ∗ stg c cc0_stg0_0 ((ins₀ m ρ).x c) ∗ stg c cc0_stg1_0 ((ins₀ m ρ).g c) ∗ stg c cc0_stg2_0 ((ins₀ m ρ).u c) ∗ stg c cc0_stg3_0 ((ins₀ m ρ).d c)
    ∗ stg c cc0_stg4_0 (outV (ins₀ m ρ) c))

theorem before_x (c : Dev nD) (d) : (dats (F := F) m ρ 0 c).before (0 : Fin 5) t0_0 d = (ins₀ m ρ).x c := by
  unfold Dat.before; rw [if_pos (fetch0_0 t0_0)]; rfl
theorem before_g (c : Dev nD) (d) : (dats (F := F) m ρ 0 c).before (1 : Fin 5) t0_0 d = (ins₀ m ρ).g c := by
  unfold Dat.before; rw [if_pos (fetch0_1 t0_0)]; rfl
theorem before_u (c : Dev nD) (d) : (dats (F := F) m ρ 0 c).before (2 : Fin 5) t0_0 d = (ins₀ m ρ).u c := by
  unfold Dat.before; rw [if_pos (fetch0_2 t0_0)]; rfl
theorem before_d (c : Dev nD) (d) : (dats (F := F) m ρ 0 c).before (3 : Fin 5) t0_0 d = (ins₀ m ρ).d c := by
  unfold Dat.before; rw [if_pos (fetch0_3 t0_0)]; rfl

/-- The body, from what it is given to what it gives back. -/
theorem body_sound (c : Dev nD) :
    bodyPre m ρ c ⊢ wpc c (cc0_body (F := F) xM (Memref.isWhole_whole _) gM (Memref.isWhole_whole _) uM (Memref.isWhole_whole _) dM (Memref.isWhole_whole _)
      oM (Memref.isWhole_whole _) sM (Memref.isWhole_whole _) rM (Memref.isWhole_whole _) aM (Memref.isWhole_whole _) bM (Memref.isWhole_whole _)
      gbM (Memref.isWhole_whole _) ubM (Memref.isWhole_whole _) dbM (Memref.isWhole_whole _) cc0_scratch7 cc0_scratch8 cc0_scratch9 cc0_scratch10)
      (fun _ => bodyPost m ρ c) := by
  unfold bodyPre start G'
  iintro ⟨⟨⟨⟨⟨%K, HI⟩, Hpos, Htok⟩, Hcr, Hlev⟩, Hbuf⟩, Ho, ⟨%d0, H0⟩, ⟨%d1, H1⟩, ⟨%d2, H2⟩, ⟨%d3, H3⟩, ⟨%d4, H4⟩⟩
  ihave H0 := (Entails.of_eq (owns_all c cc0_stg0_0 _)) $$ H0
  ihave H1 := (Entails.of_eq (owns_all c cc0_stg1_0 _)) $$ H1
  ihave H2 := (Entails.of_eq (owns_all c cc0_stg2_0 _)) $$ H2
  ihave H3 := (Entails.of_eq (owns_all c cc0_stg3_0 _)) $$ H3
  ihave H4 := (Entails.of_eq (owns_all c cc0_stg4_0 _)) $$ H4
  icases H0 with ⟨%f0, %e0, H0⟩
  icases H1 with ⟨%f1, %e1, H1⟩
  icases H2 with ⟨%f2, %e2, H2⟩
  icases H3 with ⟨%f3, %e3, H3⟩
  icases H4 with ⟨%f4, %e4, H4⟩
  unfold Dat.owesAt Pipeline.owesWithin
  icases Ho with ⟨%W, %hW, HO⟩
  rw [show (dats m ρ 0 c).owed t0_0.castSucc = Orem c 0 from rfl]
  rw [before_x] at e0; rw [before_g] at e1; rw [before_u] at e2; rw [before_d] at e3
  subst e0; subst e1; subst e2; subst e3
  iapply (body_run (ins₀ m ρ) K c) $$ [HI Hlev HO Hpos Htok Hcr Hbuf H0 H1 H2 H3 H4]
  · isplitl [HI Hlev]
    · unfold ctx; isplitl [HI] <;> iassumption
    isplitl [HO]
    · unfold Ow; iexists W; iexact HO
    isplitl [Hpos]; · iexact Hpos
    isplitl [Htok]; · iexact Htok
    isplitl [Hcr]; · iexact Hcr
    isplitl [Hbuf]; · iexact Hbuf
    isplitl [H0 H1 H2 H3]
    · unfold ins rawW
      isplitl [H0]; · iexact H0
      isplitl [H1]; · iexact H1
      isplitl [H2] <;> iassumption
    iexists f4; iexact H4
  unfold bodyDone ins rawW Ow
  iintro ⟨⟨%W', HO⟩, Hs, Hb, ⟨H0, H1, H2, H3⟩, H4⟩
  unfold bodyPost Dat.owesAt Pipeline.owesWithin
  rw [show (dats m ρ 0 c).owed t0_0.succ = 0 from rfl, Orem_end]
  isplitl [Hs Hb]
  · isplitl [Hs] <;> iassumption
  isplitl [HO]
  · iexists W'
    isplitr; · ipureintro; exact fun _ _ => Or.inl trivial
    iexact HO
  isplitl [H0]; · iapply (stg_of c cc0_stg0_0 _); iexact H0
  isplitl [H1]; · iapply (stg_of c cc0_stg1_0 _); iexact H1
  isplitl [H2]; · iapply (stg_of c cc0_stg2_0 _); iexact H2
  isplitl [H3]; · iapply (stg_of c cc0_stg3_0 _); iexact H3
  iapply (stg_of c cc0_stg4_0 _); iexact H4

theorem wins_split (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

attribute [local irreducible] cc0_body

/-- What the pipeline asks of the body. -/
theorem body_obligation (c : Dev nD) : BodyObligation (dats (F := F) m ρ 0 c) (defs₀ (F := F)) 𝒱₀ () Set.univ := by
  intro t
  rw [fin_N0 t]
  rw [wins_split, wins_split]
  exact body_sound m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Orem d 0) c ∗ prngReg c (ρ c) ∗ G' (ins₀ m ρ) c)
      ⊢ |={Set.univ}=> iprop(start m ρ c ∗ emp) := by
  iintro ⟨-, Hlev, Hcr, -, HG⟩
  ihave Hc := (creds_of (F := F) c) $$ Hcr
  imodintro
  unfold start
  isplitl
  · isplitl [HG]; · iexact HG
    isplitl [Hc] <;> iassumption
  · iempintro

theorem rest_bufs (c : Dev nD) : (Pipeline.scopedRest cfg0.spec c : sProp 𝕄) = bufs (F := F) c := by
  rw [scopedRest0_eq]; rfl

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m ρ c ∗ bufs (F := F) c) from rfl, rest_bufs]
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(sems c ∗ bufs (F := F) c) from rfl, rest_bufs, own_sems, shared_sems]
  unfold sems
  iintro ⟨⟨Hb, Ho⟩, Hr⟩
  isplitl [Hb]; · iexact Hb
  isplitl [Ho] <;> iassumption

/-- The staging semaphores are below every other cell. -/
theorem lv_stage (c : Dev nD) (w : Fin cfg0.W) (s : Fin (cfg0.win w).nbuf) : lv ((c : Thread nD τ), .dma ((cfg0.win w).sem s)) () = 0 := by
  have h : ∀ (w : Fin cfg0.W) (s : Fin (cfg0.win w).nbuf) (k : Fin 4 × Dev nD), osem k ≠ .dma ((cfg0.win w).sem s) := by decide +kernel
  unfold lv keyOf
  rw [if_neg (fun h => by cases h), dif_neg (fun ⟨k, hk⟩ => h w s k hk)]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait c _ 0 (by rw [lv_stage]; exact Nat.one_pos)
    · show _ ⊢ MayWait (c : Thread nD τ) _ () 0
      rw [MayWait_zero]; iintro -; iempintro

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxHeartbeats 2000000 in
set_option maxRecDepth 8000 in
/-- From any memory with the counters at zero, over any float values, every fair run of the program on the eight devices
    stops, with every device's windows' arrays at `finalA` and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => Orem d 0) (howed₀ := fun _ => rfl) (howedN := fun _ => rfl)
    (L := L) (lv := lv) (hL := L_of_ne) (hwaits := waits m ρ)
    (G := G (ins₀ m ρ)) (G' := G' (ins₀ m ρ)) (u₀ := u₀)
    (hu₀ := by
      unfold u₀
      iintro Hu
      ihave H := (ownU_pair _ _) $$ Hu
      icases H with ⟨HP, HX⟩
      imod (fund_all (ins₀ m ρ)) $$ HX with HG
      imodintro
      isplitl [HP] <;> iassumption)
    (hglob := glob (ins₀ m ρ))
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp

end
-- ==== Proof.Value.lean ====
/-
# The values over the extended reals

With exact arithmetic, format changes being the identity, the kernel's result on every device is the sum over the
devices of their partial products, and the reference's result is the same sum: its hidden columns, all 12288 of them,
are the devices' 1536 columns each.
-/
module

public import proofs.«01_k».proof.Proof.Launch
public import proofs.«01_k».proof.Proof.Gen.ReferenceIdeal.Run
public import Idealize.ShloMosaic.Lib.Pipeline.ValueKit.Geometry
public import Idealize.ShloMosaic.Lib.MatmulPlain
public import Idealize.ShloMosaic.Lib.StackMember

@[expose] public section

noncomputable section

namespace Cert.Mlp

open Cert.KernelIdeal Cert.KernelIdeal.Gen
open Idealize.ShloMosaic
open Idealize.ShloMosaic.TcCoe
open Idealize.ShloMosaic.ValueIdx
open Idealize.SL.Sem

/-! ## One gated hidden entry -/

/-- The gate times the silu of the up projection, as the kernel computes it. -/
def gated (g u : EReal) : EReal := g * (u * Ideal.logistic u)

/-- The exponential is never negative. -/
theorem exp_nonneg (x : EReal) : 0 ≤ Ideal.exp x := by
  induction x using EReal.rec with
  | bot => simp
  | coe r => rw [Ideal.exp_coe]; exact_mod_cast (Real.exp_pos r).le
  | top => simp

/-- So one plus an exponential is not zero, -/
theorem one_add_exp_ne_zero (x : EReal) : 1 + Ideal.exp x ≠ 0 := by
  intro h
  have h1 : (1 : EReal) ≤ 1 + Ideal.exp x := le_add_of_nonneg_right (exp_nonneg x)
  rw [h] at h1
  exact absurd h1 (by simp)

/-- and the reference's quotient is the kernel's product with the logistic function. -/
theorem mul_logistic (u : EReal) : u * Ideal.logistic u = Ideal.div u (1 + Ideal.exp (-u)) := by
  unfold Ideal.logistic Ideal.div
  rw [if_neg (one_add_exp_ne_zero _), if_neg (one_add_exp_ne_zero _), one_mul]

/-! ## Products at an entry -/

/-- A product accumulated onto zero, at an entry. -/
theorem mm_entry {M K N : ℕ} {φ₁ φ₂ : FTy} (a : FVec Ideal ⟨2, ![M, K]⟩ φ₁) (b : FVec Ideal ⟨2, ![K, N]⟩ φ₂) (r : Fin M) (j : Fin N) :
    matmul (DotDims.plain M K N) none a b (constant ⟨2, ![M, N]⟩ .f32 0x00000000#32) (ix2 r j) = ∑ k : Fin K, a (ix2 r k) * b (ix2 k j) := by
  refine (Ideal.matmul_plain_apply none a b _ r j).trans ?_
  show Ideal.ofBits .f32 0x00000000#32 + _ = _
  rw [Ideal.ofBits_zero_f32, zero_add]

/-- A device's entry of the hidden layer: row `r` of `x` against column `k` of the two first weights. -/
def hid {n : ℕ} (x : Vec Ideal S768x768 .f32) (g u : (⟨2, ![768, n]⟩ : Shape).Idx → EReal) (r : Fin 768) (k : Fin n) : EReal :=
  gated (∑ l : Fin 768, x (ix2 r l) * g (ix2 l k)) (∑ l : Fin 768, x (ix2 r l) * u (ix2 l k))

/-- Two matrices' gated product with `x`, times a third, at an entry. -/
def mlp {n : ℕ} (x : Vec Ideal S768x768 .f32) (g u : (⟨2, ![768, n]⟩ : Shape).Idx → EReal) (d : (⟨2, ![n, 768]⟩ : Shape).Idx → EReal)
    (r j : Fin 768) : EReal := ∑ k : Fin n, hid x g u r k * d (ix2 k j)

/-! ## The kernel's values -/

variable (I : Ins Ideal)

/-- Device `c`'s partial product at an entry. -/
def part (c : Dev nD) (i : S768x768.Idx) : EReal := mlp (I.x c) (I.g c) (I.u c) (I.d c) (i 0) (i 1)

theorem chunk_ix (q : Fin 4) (y : S192x768.Idx) (l : Fin 768) :
    (chunkR q).emb (ix2 (y 0) l) = (ix2 ((chunkR q).emb y 0) l : S768x768.Idx) := by
  funext a
  apply Fin.ext
  fin_cases a
  · rfl
  · show 0 + 1 * l.val = l.val; omega

/-- A chunk a device computes holds its partial product's entries. -/
theorem chunkV_entry (c : Dev nD) (q : Fin 4) (y : S192x768.Idx) : chunkV I c q y = part I c ((chunkR q).emb y) := by
  have hy : y = ix2 (y 0) (y 1) := eq_ix2 y
  have h1 : (chunkR q).emb y 1 = y 1 := Fin.ext (by show 0 + 1 * (y 1).val = (y 1).val; omega)
  unfold chunkV k0_pay4 gB uB dB k0_pay1 k0_pay2 k0_pay3
  simp only [shapeCast_self]
  refine (congrArg _ hy).trans ((mm_entry (M := 192) (K := 1536) (N := 768) _ _ (y 0) (y 1)).trans ?_)
  unfold part mlp
  rw [h1]
  refine Finset.sum_congr rfl fun k _ => congrArg (· * I.d c (ix2 k (y 1))) ?_
  have e : ∀ w : Vec Ideal S768x1536 .f32,
      matmul dot_S192x768_S768x1536_S192x1536_1_0_0_1_n_n none (truncf .bf16 (xChunk I c q) bitsLt_bf16_f32) (truncf .bf16 w bitsLt_bf16_f32)
          (constant S192x1536 .f32 0x00000000#32) (ix2 (y 0) k)
        = ∑ l : Fin 768, I.x c (ix2 ((chunkR q).emb y 0) l) * w (ix2 l k) := fun w => by
    refine (mm_entry (M := 192) (K := 768) (N := 1536) _ _ (y 0) k).trans (Finset.sum_congr rfl fun l _ => ?_)
    rw [← chunk_ix q y l]
    rfl
  unfold hid gated
  rw [← e (I.g c), ← e (I.u c)]
  rfl

/-- In half precision likewise, format changes being the identity. -/
theorem chunkB_eq (c : Dev nD) (q : Fin 4) (y : S192x768.Idx) : chunkB I c q y = chunkV I c q y := by
  unfold chunkB k0_pay5
  rw [shapeCast_self]
  rfl

/-- A block of a device's partial product holds its entries. -/
theorem pval_entry (c b : Dev nD) (y : S96x768.Idx) : pval I c b y = part I c ((rowR b).emb y) := by
  rw [row_emb]
  exact chunkV_entry I c (chunkOf b) ((halfR (halfOf b)).emb y)

theorem pvalB_eq (c b : Dev nD) (y : S96x768.Idx) : pvalB I c b y = pval I c b y := chunkB_eq I c _ _

/-- The running sum after `n` received blocks. -/
theorem accTo_entry (c : Dev nD) (y : S96x768.Idx) : ∀ n,
    accTo I c n y = pval I c c y + ∑ k ∈ Finset.range n, pval I (peer c (Fin.ofNat 7 k)) c y
  | 0 => by
      rw [Finset.range_zero, Finset.sum_empty, add_zero]
      unfold accTo
      rw [shapeCast_self]
  | n + 1 => by
      rw [Finset.sum_range_succ, ← add_assoc, ← accTo_entry c y n, ← pvalB_eq]
      rfl

/-- A device's reduced block is the sum over all devices of that block of their partial products. -/
theorem acc_entry (c : Dev nD) (y : S96x768.Idx) : acc I c y = ∑ p : Dev nD, part I p ((rowR c).emb y) := by
  have h : ∑ k ∈ Finset.range 7, pval I (peer c (Fin.ofNat 7 k)) c y = ∑ k : Fin 7, pval I (peer c k) c y := by
    rw [Finset.sum_range]
    exact Finset.sum_congr rfl fun k _ => by rw [show Fin.ofNat 7 k.val = k from Fin.ext (Nat.mod_eq_of_lt k.isLt)]
  unfold acc
  rw [accTo_entry, h, sum_peers c (fun p => pval I p c y), ← Finset.add_sum_erase _ _ (Finset.mem_univ c), if_pos rfl, zero_add,
    ← Finset.add_sum_erase Finset.univ (fun p => part I p ((rowR c).emb y)) (Finset.mem_univ c), ← pval_entry]
  refine congrArg (pval I c c y + ·) (Finset.sum_congr rfl fun p hp => ?_)
  rw [if_neg (Finset.ne_of_mem_erase hp), pval_entry]

/-- What a device keeps of its own block and what it receives of another's are both that block reduced. -/
theorem blockV_eq (c b : Dev nD) (y : S96x768.Idx) : blockV I c b y = acc I b y := by
  unfold blockV
  split
  · next h => rw [h]
  · unfold accB
    rw [shapeCast_self]
    rfl

/-- The result, on every device, is the sum over the devices of their partial products. -/
theorem outV_entry (c : Dev nD) (i : S768x768.Idx) : outV I c i = ∑ p : Dev nD, part I p i := by
  unfold outV
  rw [blockV_eq, acc_entry, row_emb_inBlock]

/-! ## The reference's value -/

/-- The format's word for one is the number one. -/
theorem word_one : Ideal.ofBits .f32 0x3F800000#32 = 1 := by
  simp only [Ideal.ofBits, Ideal.ieee]
  norm_num [-EReal.coe_mul, show BitVec.extractLsb' 31 1 0x3F800000#32 = 0#1 from rfl, show 1065353216 >>> 23 % 256 = 127 from rfl]

section Reference

variable (x : FVec Ideal S768x768 .f32) (g u : FVec Ideal ⟨2, ![768, 12288]⟩ .f32) (d : FVec Ideal ⟨2, ![12288, 768]⟩ .f32)

/-- What the reference ends with, as its operations' composed term. -/
def refV : Vec Ideal S768x768 .f32 :=
  Host.dotGeneral Cert.ReferenceIdeal.dot_S768x12288_S12288x768_S768x768_1_0_0_1_n_n none
    (mulf (Host.dotGeneral Cert.ReferenceIdeal.dot_S768x768_S768x12288_S768x12288_1_0_0_1_n_n none x g)
      (Host.divf (Host.dotGeneral Cert.ReferenceIdeal.dot_S768x768_S768x12288_S768x12288_1_0_0_1_n_n none x u)
        (addf (broadcastInDim Cert.ReferenceIdeal.S768x12288 ![] Cert.ReferenceIdeal.Facts₀.bcast_S_S768x12288 (constant Cert.ReferenceIdeal.S_ .f32 0x3F800000#32))
          (Host.exp (Host.negf (Host.dotGeneral Cert.ReferenceIdeal.dot_S768x768_S768x12288_S768x12288_1_0_0_1_n_n none x u)))))) d

/-- It is the gated product over all hidden columns. -/
theorem refV_entry (i : S768x768.Idx) : refV x g u d i = mlp x g u d (i 0) (i 1) := by
  unfold refV
  refine (congrArg _ (eq_ix2 i)).trans ((StackMember.dotGeneral_plain_apply (m := 768) (k := 12288) (n := 768) none _ _ (i 0) (i 1)).trans ?_)
  unfold mlp
  refine Finset.sum_congr rfl fun k _ => congrArg (· * d (ix2 k (i 1))) ?_
  have e : ∀ w : FVec Ideal ⟨2, ![768, 12288]⟩ .f32,
      Host.dotGeneral Cert.ReferenceIdeal.dot_S768x768_S768x12288_S768x12288_1_0_0_1_n_n none x w (ix2 (i 0) k)
        = ∑ l : Fin 768, x (ix2 (i 0) l) * w (ix2 l k) := fun w =>
    StackMember.dotGeneral_plain_apply (m := 768) (k := 768) (n := 12288) none x w (i 0) k
  unfold hid gated
  rw [mul_logistic, ← e g, ← e u, ← word_one]
  rfl

/-- A sum over the 12288 hidden columns is the sum over the devices of the sums over their 1536. -/
theorem sum_columns (f : Fin 12288 → EReal) :
    ∑ k, f k = ∑ c : Fin 8, ∑ k : Fin 1536, f ⟨c.val * 1536 + k.val, by omega⟩ := by
  rw [← Equiv.sum_comp (finProdFinEquiv : Fin 8 × Fin 1536 ≃ Fin (8 * 1536)) f, Fintype.sum_prod_type]
  refine Finset.sum_congr rfl fun c _ => Finset.sum_congr rfl fun k _ => congrArg f (Fin.ext ?_)
  show k.val + 1536 * c.val = c.val * 1536 + k.val
  omega

/-- The gated product over all columns is the sum over the devices of that over each one's columns of the first two
    weights and rows of the last. -/
theorem mlp_blocks (r j : Fin 768) : mlp x g u d r j
    = ∑ c : Fin 8, mlp x (Layout.block ⟨2, ![768, 1536]⟩ ⟨2, ![768, 12288]⟩ 1 8 c g) (Layout.block ⟨2, ![768, 1536]⟩ ⟨2, ![768, 12288]⟩ 1 8 c u)
        (Layout.block ⟨2, ![1536, 768]⟩ ⟨2, ![12288, 768]⟩ 0 8 c d) r j := by
  unfold mlp
  rw [sum_columns]
  refine Finset.sum_congr rfl fun c _ => Finset.sum_congr rfl fun k _ => ?_
  have hc : ∀ (w : FVec Ideal ⟨2, ![768, 12288]⟩ .f32) (l : Fin 768),
      Layout.block ⟨2, ![768, 1536]⟩ ⟨2, ![768, 12288]⟩ 1 8 c w (by decide) (ix2 l k) = w (ix2 l ⟨c.val * 1536 + k.val, by omega⟩) := fun w l => by
    rw [Layout.block_apply]
    refine congrArg w (funext fun a => Fin.ext ?_)
    fin_cases a <;> rfl
  have hr : Layout.block ⟨2, ![1536, 768]⟩ ⟨2, ![12288, 768]⟩ 0 8 c d (by decide) (ix2 k j) = d (ix2 ⟨c.val * 1536 + k.val, by omega⟩ j) := by
    rw [Layout.block_apply]
    refine congrArg d (funext fun a => Fin.ext ?_)
    fin_cases a <;> rfl
  unfold hid
  simp only [hc, hr]

/-- When every device holds `x`, its columns of the first two weights and its rows of the last, its result is the reference's. -/
theorem outV_eq_refV (hx : ∀ c, I.x c = x)
    (hg : ∀ c, I.g c = Layout.block ⟨2, ![768, 1536]⟩ ⟨2, ![768, 12288]⟩ 1 8 c g)
    (hu : ∀ c, I.u c = Layout.block ⟨2, ![768, 1536]⟩ ⟨2, ![768, 12288]⟩ 1 8 c u)
    (hd : ∀ c, I.d c = Layout.block ⟨2, ![1536, 768]⟩ ⟨2, ![12288, 768]⟩ 0 8 c d) (c : Dev nD) : outV I c = refV x g u d := by
  funext i
  refine (outV_entry I c i).trans (Eq.trans ?_ ((refV_entry x g u d i).trans (mlp_blocks x g u d (i 0) (i 1))).symm)
  refine Finset.sum_congr rfl fun p _ => ?_
  unfold part
  rw [hx p, hg p, hu p, hd p]

end Reference

/-! ## The arrays at the end of the run -/

section Final

/-- An index of a whole array cut from its corner is itself. -/
theorem whole_ix {n k : ℕ} (i : (⟨2, ![n, k]⟩ : Shape).Idx) :
    (fun a => ⟨0 * (![n, k] : Fin 2 → ℕ) a + 1 * (i a).val, by rw [zero_mul, zero_add, one_mul]; exact (i a).isLt⟩ : (⟨2, ![n, k]⟩ : Shape).Idx) = i := by
  funext a
  apply Fin.ext
  show 0 * _ + 1 * (i a).val = (i a).val
  rw [zero_mul, zero_add, one_mul]

variable {F : FTy → Type} [FloatOps F] (m : (ℓ : Loc nD τ sig) → Buf (Elt F) ℓ) (ρ : Dev nD → PrngReg)

/-- The argument arrays end as they began. -/
theorem final_x (c : Dev nD) : finalA m ρ c 0 = m ((c : Thread nD τ).loc main_arg0) := (dats m ρ 0 c).arrAt_in 0 rfl _
theorem final_g (c : Dev nD) : finalA m ρ c 1 = m ((c : Thread nD τ).loc main_arg1) := (dats m ρ 0 c).arrAt_in 1 rfl _
theorem final_u (c : Dev nD) : finalA m ρ c 2 = m ((c : Thread nD τ).loc main_arg2) := (dats m ρ 0 c).arrAt_in 2 rfl _
theorem final_d (c : Dev nD) : finalA m ρ c 3 = m ((c : Thread nD τ).loc main_arg3) := (dats m ρ 0 c).arrAt_in 3 rfl _

/-- The operands a device computes from are its argument arrays: each is staged whole. -/
theorem ins_x (c : Dev nD) : (ins₀ m ρ).x c = m ((c : Thread nD τ).loc main_arg0) := funext fun i =>
  congrArg (m ((c : Thread nD τ).loc main_arg0)) (whole_ix (n := 768) (k := 768) i)
theorem ins_g (c : Dev nD) : (ins₀ m ρ).g c = m ((c : Thread nD τ).loc main_arg1) := funext fun i =>
  congrArg (m ((c : Thread nD τ).loc main_arg1)) (whole_ix (n := 768) (k := 1536) i)
theorem ins_u (c : Dev nD) : (ins₀ m ρ).u c = m ((c : Thread nD τ).loc main_arg2) := funext fun i =>
  congrArg (m ((c : Thread nD τ).loc main_arg2)) (whole_ix (n := 768) (k := 1536) i)
theorem ins_d (c : Dev nD) : (ins₀ m ρ).d c = m ((c : Thread nD τ).loc main_arg3) := funext fun i =>
  congrArg (m ((c : Thread nD τ).loc main_arg3)) (whole_ix (n := 1536) (k := 768) i)

/-- The result array ends holding what the device computed: it is written back whole, once. -/
theorem final_out (c : Dev nD) : finalA m ρ c 4 = outV (ins₀ m ρ) c :=
  (dats m ρ 0 c).arrAt_eq_of_after_last 4 t0_0 (by decide +kernel) (outV (ins₀ m ρ) c) fun j => rfl

/-- Every run ends with each device's arguments as they were, its result computed from them, and every counter zero. -/
theorem run_value : θ_run defs (onTc (τ := τ) (main (F := F))) ⟨m, fun _ => 0, ρ⟩ (fun r =>
    (∀ c : Dev nD, r.2.mem ((c.tc : Thread nD τ).loc main_v1) = outV (ins₀ m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c 4).trans (final_out m ρ c), (h.1 c 0).trans (final_x m ρ c),
    (h.1 c 1).trans (final_g m ρ c), (h.1 c 2).trans (final_u m ρ c), (h.1 c 3).trans (final_d m ρ c)⟩, h.2⟩) (run_main m ρ)

/-- Every run ends with each device's arguments as they were and every counter zero. -/
theorem run_keeps : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_value m ρ)

end Final

end Cert.Mlp

end
-- ==== Proof.lean ====
/-
# The certificate

The run of the kernel (`Cert.Mlp.run_value`, over any float values) gives both its frames; with the equation of the two
values over the extended reals (`Cert.Mlp.outV_eq_refV`) and the reference's run it gives the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed has the body table of the program proved about, label by label. -/
theorem bodies_eq : Cert.Kernel.defs₀ (F := Bits) = Cert.KernelIdeal.defs₀ (F := Bits) := by
  funext κ
  cases κ with
  | tc =>
    funext l a
    match l, a with
    | ⟨0, _⟩, (t, s) => rfl
    | ⟨n + 1, h⟩, _ => exact absurd h (Nat.not_lt.2 (Nat.le_add_left _ _))
  | scScalar _ => rfl
  | scVector _ _ => rfl

/-- So it has its pipeline's table too. -/
theorem tables_eq : Cert.Kernel.defs (F := Bits) = Cert.KernelIdeal.defs (F := Bits) :=
  congrArg (Pipeline.defs (Cert.KernelIdeal.pcfgs (F := Bits))) bodies_eq

/-- The kernel as printed runs, keeps its arguments and ends with every counter zero: it is the program proved about, read
    at machine words. -/
theorem frame_kernel : Cert.quiescent_Kernel := by
  intro m ρ _
  rw [tables_eq]
  exact Cert.Mlp.run_keeps (F := Bits) m ρ

/-- The same over the extended reals. -/
theorem frame_kernelIdeal : Cert.quiescent_KernelIdeal := fun m ρ _ => Cert.Mlp.run_keeps (F := Ideal) m ρ

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's, over the extended reals. -/
theorem algebraic : Cert.algebraic_KernelIdeal_ReferenceIdeal := by
  intro m ρ m' ρ' _ hargs
  refine ⟨Cert.Mlp.refV _ _ _ _, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.Mlp.run_value (F := Ideal) m ρ)
  exact Cert.Mlp.outV_eq_refV (Cert.Mlp.ins₀ m ρ) _ _ _ _ (fun p => (Cert.Mlp.ins_x m ρ p).trans (hargs p).1)
    (fun p => (Cert.Mlp.ins_g m ρ p).trans (hargs p).2.1) (fun p => (Cert.Mlp.ins_u m ρ p).trans (hargs p).2.2.1)
    (fun p => (Cert.Mlp.ins_d m ρ p).trans (hargs p).2.2.2) c

/-- Everything the certificate claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
